-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 4096]⟩ ⟨2, ![4096, 4096]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 256]⟩ ⟨2, ![4096, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x4096 : Shape := ⟨2, ![512, 4096]⟩
abbrev S4096x2048 : Shape := ⟨2, ![4096, 2048]⟩
abbrev S4096x256 : Shape := ⟨2, ![4096, 256]⟩
abbrev S2x4096x256 : Shape := ⟨3, ![2, 4096, 256]⟩
abbrev S8x512x256 : Shape := ⟨3, ![8, 512, 256]⟩
abbrev S2 : Shape := ⟨1, ![2]⟩
abbrev S8 : Shape := ⟨1, ![8]⟩
abbrev S_ : Shape := ⟨0, ![]⟩
abbrev S1 : Shape := ⟨1, ![1]⟩
abbrev S1x4096x256 : Shape := ⟨3, ![1, 4096, 256]⟩
abbrev S512x256 : Shape := ⟨2, ![512, 256]⟩
abbrev S1x512x256 : Shape := ⟨3, ![1, 512, 256]⟩

abbrev nBuf : Space → Nat
  | .hbm => 3
  | .vmem => 6
  | .smem => 0
  | _ => 0

abbrev bufTy : (tb : Table) → Fin (tcTables nBuf tb) → BufTy
  | .hbm, ⟨0, _⟩ => ⟨S512x4096, .f32⟩
  | .hbm, ⟨1, _⟩ => ⟨S4096x2048, .f32⟩
  | .hbm, ⟨2, _⟩ => ⟨S4096x256, .f32⟩
  | .local _ .vmem, ⟨0, _⟩ => ⟨S512x4096, .f32⟩
  | .local _ .vmem, ⟨1, _⟩ => ⟨S4096x256, .f32⟩
  | .local _ .vmem, ⟨2, _⟩ => ⟨S512x4096, .bf16⟩
  | .local _ .vmem, ⟨3, _⟩ => ⟨S2x4096x256, .f32⟩
  | .local _ .vmem, ⟨4, _⟩ => ⟨S8x512x256, .bf16⟩
  | .local _ .vmem, ⟨5, _⟩ => ⟨S8x512x256, .bf16⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  (ofTc nBuf bufTy 1 20 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let c0_i32 : BitVec 32 := 0#32
  let v5 : BitVec 1 := Scalar.cmpi .eq c8_i32_1 c0_i32
  let c1_i32_2 : BitVec 32 := 1#32
  let v6 : BitVec 32 := Scalar.select v5 c1_i32_2 c8_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v17 : BitVec 32 := Scalar.addi v2 c2_i32
  let c8_i32_9 : BitVec 32 := 8#32
  let c0_i32_10 : BitVec 32 := 0#32
  let v18 : BitVec 1 := Scalar.cmpi .eq c8_i32_9 c0_i32_10
  let c1_i32_11 : BitVec 32 := 1#32
  let v19 : BitVec 32 := Scalar.select v18 c1_i32_11 c8_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v30 : BitVec 32 := Scalar.addi v2 c3_i32
  let c8_i32_18 : BitVec 32 := 8#32
  let c0_i32_19 : BitVec 32 := 0#32
  let v31 : BitVec 1 := Scalar.cmpi .eq c8_i32_18 c0_i32_19
  let c1_i32_20 : BitVec 32 := 1#32
  let v32 : BitVec 32 := Scalar.select v31 c1_i32_20 c8_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v43 : BitVec 32 := Scalar.addi v2 c4_i32
  let c8_i32_27 : BitVec 32 := 8#32
  let c0_i32_28 : BitVec 32 := 0#32
  let v44 : BitVec 1 := Scalar.cmpi .eq c8_i32_27 c0_i32_28
  let c1_i32_29 : BitVec 32 := 1#32
  let v45 : BitVec 32 := Scalar.select v44 c1_i32_29 c8_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v56 : BitVec 32 := Scalar.addi v2 c5_i32
  let c8_i32_36 : BitVec 32 := 8#32
  let c0_i32_37 : BitVec 32 := 0#32
  let v57 : BitVec 1 := Scalar.cmpi .eq c8_i32_36 c0_i32_37
  let c1_i32_38 : BitVec 32 := 1#32
  let v58 : BitVec 32 := Scalar.select v57 c1_i32_38 c8_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v69 : BitVec 32 := Scalar.addi v2 c6_i32
  let c8_i32_45 : BitVec 32 := 8#32
  let c0_i32_46 : BitVec 32 := 0#32
  let v70 : BitVec 1 := Scalar.cmpi .eq c8_i32_45 c0_i32_46
  let c1_i32_47 : BitVec 32 := 1#32
  let v71 : BitVec 32 := Scalar.select v70 c1_i32_47 c8_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v82 : BitVec 32 := Scalar.addi v2 c7_i32
  let c8_i32_54 : BitVec 32 := 8#32
  let c0_i32_55 : BitVec 32 := 0#32
  let v83 : BitVec 1 := Scalar.cmpi .eq c8_i32_54 c0_i32_55
  let c1_i32_56 : BitVec 32 := 1#32
  let v84 : BitVec 32 := Scalar.select v83 c1_i32_56 c8_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_off1 (d0 : Dev nD) (c0_i32_63 : BitVec 32) : Fin 2 → Nat :=
  let c0_i32_74 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v95 : BitVec 32 := Scalar.addi v2 c0_i32_63
  let c8_i32_64 : BitVec 32 := 8#32
  let c0_i32_65 : BitVec 32 := 0#32
  let v96 : BitVec 1 := Scalar.cmpi .eq c8_i32_64 c0_i32_65
  let c1_i32_66 : BitVec 32 := 1#32
  let v97 : BitVec 32 := Scalar.select v96 c1_i32_66 c8_i32_64
  let v98 : BitVec 32 := Scalar.remsi v95 v97
  let c0_i32_68 : BitVec 32 := 0#32
  let v100 : BitVec 1 := Scalar.cmpi .slt v98 c0_i32_68
  let c0_i32_69 : BitVec 32 := 0#32
  let v101 : BitVec 1 := Scalar.cmpi .slt v97 c0_i32_69
  let v102 : BitVec 1 := Scalar.xori v100 v101
  let c0_i32_67 : BitVec 32 := 0#32
  let v99 : BitVec 1 := Scalar.cmpi .ne v98 c0_i32_67
  let v103 : BitVec 1 := Scalar.andi v102 v99
  let v104 : BitVec 32 := Scalar.addi v98 v97
  let v105 : BitVec 32 := Scalar.select v103 v104 v98
  let c256_i32 : BitVec 32 := 256#32
  let v106 : BitVec 32 := Scalar.muli v105 c256_i32
  ![0, v106.toNat]
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c512_i32 : BitVec 32 := 512#32
  let v174 : BitVec 32 := Scalar.muli v2 c512_i32
  let v175 : Index := Scalar.indexCast v174
  let c0_122 : Index := 0#32
  ![v175.toNat, 0]
def k0_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_169 : BitVec 32 := 0#32
  let c0_i32_170 : BitVec 32 := 0#32
  ![v2.toNat, 0, 0]
def k0_dev8 (d0 : Dev nD) : Nat :=
  let c0_i32_168 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_124 : BitVec 32 := 1#32
  let v177 : BitVec 32 := Scalar.addi v2 c1_i32_124
  let c8_i32_125 : BitVec 32 := 8#32
  let c0_i32_126 : BitVec 32 := 0#32
  let v178 : BitVec 1 := Scalar.cmpi .eq c8_i32_125 c0_i32_126
  let c1_i32_127 : BitVec 32 := 1#32
  let v179 : BitVec 32 := Scalar.select v178 c1_i32_127 c8_i32_125
  let v180 : BitVec 32 := Scalar.remsi v177 v179
  let c0_i32_129 : BitVec 32 := 0#32
  let v182 : BitVec 1 := Scalar.cmpi .slt v180 c0_i32_129
  let c0_i32_130 : BitVec 32 := 0#32
  let v183 : BitVec 1 := Scalar.cmpi .slt v179 c0_i32_130
  let v184 : BitVec 1 := Scalar.xori v182 v183
  let c0_i32_128 : BitVec 32 := 0#32
  let v181 : BitVec 1 := Scalar.cmpi .ne v180 c0_i32_128
  let v185 : BitVec 1 := Scalar.andi v184 v181
  let v186 : BitVec 32 := Scalar.addi v180 v179
  let v187 : BitVec 32 := Scalar.select v185 v186 v180
  let c1_i32_167 : BitVec 32 := 1#32
  let v231 : BitVec 32 := Scalar.muli v187 c1_i32_167
  let v232 : BitVec 32 := Scalar.addi c0_i32_168 v231
  v232.toNat
def k0_dev9 (d0 : Dev nD) : Nat :=
  let c0_i32_217 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_173 : BitVec 32 := 2#32
  let v241 : BitVec 32 := Scalar.addi v2 c2_i32_173
  let c8_i32_174 : BitVec 32 := 8#32
  let c0_i32_175 : BitVec 32 := 0#32
  let v242 : BitVec 1 := Scalar.cmpi .eq c8_i32_174 c0_i32_175
  let c1_i32_176 : BitVec 32 := 1#32
  let v243 : BitVec 32 := Scalar.select v242 c1_i32_176 c8_i32_174
  let v244 : BitVec 32 := Scalar.remsi v241 v243
  let c0_i32_178 : BitVec 32 := 0#32
  let v246 : BitVec 1 := Scalar.cmpi .slt v244 c0_i32_178
  let c0_i32_179 : BitVec 32 := 0#32
  let v247 : BitVec 1 := Scalar.cmpi .slt v243 c0_i32_179
  let v248 : BitVec 1 := Scalar.xori v246 v247
  let c0_i32_177 : BitVec 32 := 0#32
  let v245 : BitVec 1 := Scalar.cmpi .ne v244 c0_i32_177
  let v249 : BitVec 1 := Scalar.andi v248 v245
  let v250 : BitVec 32 := Scalar.addi v244 v243
  let v251 : BitVec 32 := Scalar.select v249 v250 v244
  let c1_i32_216 : BitVec 32 := 1#32
  let v295 : BitVec 32 := Scalar.muli v251 c1_i32_216
  let v296 : BitVec 32 := Scalar.addi c0_i32_217 v295
  v296.toNat
def k0_dev10 (d0 : Dev nD) : Nat :=
  let c0_i32_266 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_222 : BitVec 32 := 3#32
  let v305 : BitVec 32 := Scalar.addi v2 c3_i32_222
  let c8_i32_223 : BitVec 32 := 8#32
  let c0_i32_224 : BitVec 32 := 0#32
  let v306 : BitVec 1 := Scalar.cmpi .eq c8_i32_223 c0_i32_224
  let c1_i32_225 : BitVec 32 := 1#32
  let v307 : BitVec 32 := Scalar.select v306 c1_i32_225 c8_i32_223
  let v308 : BitVec 32 := Scalar.remsi v305 v307
  let c0_i32_227 : BitVec 32 := 0#32
  let v310 : BitVec 1 := Scalar.cmpi .slt v308 c0_i32_227
  let c0_i32_228 : BitVec 32 := 0#32
  let v311 : BitVec 1 := Scalar.cmpi .slt v307 c0_i32_228
  let v312 : BitVec 1 := Scalar.xori v310 v311
  let c0_i32_226 : BitVec 32 := 0#32
  let v309 : BitVec 1 := Scalar.cmpi .ne v308 c0_i32_226
  let v313 : BitVec 1 := Scalar.andi v312 v309
  let v314 : BitVec 32 := Scalar.addi v308 v307
  let v315 : BitVec 32 := Scalar.select v313 v314 v308
  let c1_i32_265 : BitVec 32 := 1#32
  let v359 : BitVec 32 := Scalar.muli v315 c1_i32_265
  let v360 : BitVec 32 := Scalar.addi c0_i32_266 v359
  v360.toNat
def k0_dev11 (d0 : Dev nD) : Nat :=
  let c0_i32_315 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_271 : BitVec 32 := 4#32
  let v369 : BitVec 32 := Scalar.addi v2 c4_i32_271
  let c8_i32_272 : BitVec 32 := 8#32
  let c0_i32_273 : BitVec 32 := 0#32
  let v370 : BitVec 1 := Scalar.cmpi .eq c8_i32_272 c0_i32_273
  let c1_i32_274 : BitVec 32 := 1#32
  let v371 : BitVec 32 := Scalar.select v370 c1_i32_274 c8_i32_272
  let v372 : BitVec 32 := Scalar.remsi v369 v371
  let c0_i32_276 : BitVec 32 := 0#32
  let v374 : BitVec 1 := Scalar.cmpi .slt v372 c0_i32_276
  let c0_i32_277 : BitVec 32 := 0#32
  let v375 : BitVec 1 := Scalar.cmpi .slt v371 c0_i32_277
  let v376 : BitVec 1 := Scalar.xori v374 v375
  let c0_i32_275 : BitVec 32 := 0#32
  let v373 : BitVec 1 := Scalar.cmpi .ne v372 c0_i32_275
  let v377 : BitVec 1 := Scalar.andi v376 v373
  let v378 : BitVec 32 := Scalar.addi v372 v371
  let v379 : BitVec 32 := Scalar.select v377 v378 v372
  let c1_i32_314 : BitVec 32 := 1#32
  let v423 : BitVec 32 := Scalar.muli v379 c1_i32_314
  let v424 : BitVec 32 := Scalar.addi c0_i32_315 v423
  v424.toNat
def k0_dev12 (d0 : Dev nD) : Nat :=
  let c0_i32_364 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_320 : BitVec 32 := 5#32
  let v433 : BitVec 32 := Scalar.addi v2 c5_i32_320
  let c8_i32_321 : BitVec 32 := 8#32
  let c0_i32_322 : BitVec 32 := 0#32
  let v434 : BitVec 1 := Scalar.cmpi .eq c8_i32_321 c0_i32_322
  let c1_i32_323 : BitVec 32 := 1#32
  let v435 : BitVec 32 := Scalar.select v434 c1_i32_323 c8_i32_321
  let v436 : BitVec 32 := Scalar.remsi v433 v435
  let c0_i32_325 : BitVec 32 := 0#32
  let v438 : BitVec 1 := Scalar.cmpi .slt v436 c0_i32_325
  let c0_i32_326 : BitVec 32 := 0#32
  let v439 : BitVec 1 := Scalar.cmpi .slt v435 c0_i32_326
  let v440 : BitVec 1 := Scalar.xori v438 v439
  let c0_i32_324 : BitVec 32 := 0#32
  let v437 : BitVec 1 := Scalar.cmpi .ne v436 c0_i32_324
  let v441 : BitVec 1 := Scalar.andi v440 v437
  let v442 : BitVec 32 := Scalar.addi v436 v435
  let v443 : BitVec 32 := Scalar.select v441 v442 v436
  let c1_i32_363 : BitVec 32 := 1#32
  let v487 : BitVec 32 := Scalar.muli v443 c1_i32_363
  let v488 : BitVec 32 := Scalar.addi c0_i32_364 v487
  v488.toNat
def k0_dev13 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_369 : BitVec 32 := 6#32
  let v497 : BitVec 32 := Scalar.addi v2 c6_i32_369
  let c8_i32_370 : BitVec 32 := 8#32
  let c0_i32_371 : BitVec 32 := 0#32
  let v498 : BitVec 1 := Scalar.cmpi .eq c8_i32_370 c0_i32_371
  let c1_i32_372 : BitVec 32 := 1#32
  let v499 : BitVec 32 := Scalar.select v498 c1_i32_372 c8_i32_370
  let v500 : BitVec 32 := Scalar.remsi v497 v499
  let c0_i32_374 : BitVec 32 := 0#32
  let v502 : BitVec 1 := Scalar.cmpi .slt v500 c0_i32_374
  let c0_i32_375 : BitVec 32 := 0#32
  let v503 : BitVec 1 := Scalar.cmpi .slt v499 c0_i32_375
  let v504 : BitVec 1 := Scalar.xori v502 v503
  let c0_i32_373 : BitVec 32 := 0#32
  let v501 : BitVec 1 := Scalar.cmpi .ne v500 c0_i32_373
  let v505 : BitVec 1 := Scalar.andi v504 v501
  let v506 : BitVec 32 := Scalar.addi v500 v499
  let v507 : BitVec 32 := Scalar.select v505 v506 v500
  let c1_i32_399 : BitVec 32 := 1#32
  let v534 : BitVec 32 := Scalar.muli v507 c1_i32_399
  let v535 : BitVec 32 := Scalar.addi c0_i32_400 v534
  v535.toNat
def k0_dev14 (d0 : Dev nD) : Nat :=
  let c0_i32_436 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_405 : BitVec 32 := 7#32
  let v544 : BitVec 32 := Scalar.addi v2 c7_i32_405
  let c8_i32_406 : BitVec 32 := 8#32
  let c0_i32_407 : BitVec 32 := 0#32
  let v545 : BitVec 1 := Scalar.cmpi .eq c8_i32_406 c0_i32_407
  let c1_i32_408 : BitVec 32 := 1#32
  let v546 : BitVec 32 := Scalar.select v545 c1_i32_408 c8_i32_406
  let v547 : BitVec 32 := Scalar.remsi v544 v546
  let c0_i32_410 : BitVec 32 := 0#32
  let v549 : BitVec 1 := Scalar.cmpi .slt v547 c0_i32_410
  let c0_i32_411 : BitVec 32 := 0#32
  let v550 : BitVec 1 := Scalar.cmpi .slt v546 c0_i32_411
  let v551 : BitVec 1 := Scalar.xori v549 v550
  let c0_i32_409 : BitVec 32 := 0#32
  let v548 : BitVec 1 := Scalar.cmpi .ne v547 c0_i32_409
  let v552 : BitVec 1 := Scalar.andi v551 v548
  let v553 : BitVec 32 := Scalar.addi v547 v546
  let v554 : BitVec 32 := Scalar.select v552 v553 v547
  let c1_i32_435 : BitVec 32 := 1#32
  let v581 : BitVec 32 := Scalar.muli v554 c1_i32_435
  let v582 : BitVec 32 := Scalar.addi c0_i32_436 v581
  v582.toNat
def k0_off5 (d0 : Dev nD) (c1_i32_441 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v591 : BitVec 32 := Scalar.subi v2 c1_i32_441
  let c8_i32_442 : BitVec 32 := 8#32
  let c0_i32_443 : BitVec 32 := 0#32
  let v592 : BitVec 1 := Scalar.cmpi .eq c8_i32_442 c0_i32_443
  let c1_i32_444 : BitVec 32 := 1#32
  let v593 : BitVec 32 := Scalar.select v592 c1_i32_444 c8_i32_442
  let v594 : BitVec 32 := Scalar.remsi v591 v593
  let c0_i32_446 : BitVec 32 := 0#32
  let v596 : BitVec 1 := Scalar.cmpi .slt v594 c0_i32_446
  let c0_i32_447 : BitVec 32 := 0#32
  let v597 : BitVec 1 := Scalar.cmpi .slt v593 c0_i32_447
  let v598 : BitVec 1 := Scalar.xori v596 v597
  let c0_i32_445 : BitVec 32 := 0#32
  let v595 : BitVec 1 := Scalar.cmpi .ne v594 c0_i32_445
  let v599 : BitVec 1 := Scalar.andi v598 v595
  let v600 : BitVec 32 := Scalar.addi v594 v593
  let v601 : BitVec 32 := Scalar.select v599 v600 v594
  ![v601.toNat]
def k0_off6 (d0 : Dev nD) (c1_i32_441 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v591 : BitVec 32 := Scalar.subi v2 c1_i32_441
  let c8_i32_442 : BitVec 32 := 8#32
  let c0_i32_443 : BitVec 32 := 0#32
  let v592 : BitVec 1 := Scalar.cmpi .eq c8_i32_442 c0_i32_443
  let c1_i32_444 : BitVec 32 := 1#32
  let v593 : BitVec 32 := Scalar.select v592 c1_i32_444 c8_i32_442
  let v594 : BitVec 32 := Scalar.remsi v591 v593
  let c0_i32_446 : BitVec 32 := 0#32
  let v596 : BitVec 1 := Scalar.cmpi .slt v594 c0_i32_446
  let c0_i32_447 : BitVec 32 := 0#32
  let v597 : BitVec 1 := Scalar.cmpi .slt v593 c0_i32_447
  let v598 : BitVec 1 := Scalar.xori v596 v597
  let c0_i32_445 : BitVec 32 := 0#32
  let v595 : BitVec 1 := Scalar.cmpi .ne v594 c0_i32_445
  let v599 : BitVec 1 := Scalar.andi v598 v595
  let v600 : BitVec 32 := Scalar.addi v594 v593
  let v601 : BitVec 32 := Scalar.select v599 v600 v594
  let c0_i32_452 : BitVec 32 := 0#32
  let c0_i32_453 : BitVec 32 := 0#32
  ![v601.toNat, 0, 0]
def k0_off7 (d0 : Dev nD) (c1_i32_441 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v591 : BitVec 32 := Scalar.subi v2 c1_i32_441
  let c8_i32_442 : BitVec 32 := 8#32
  let c0_i32_443 : BitVec 32 := 0#32
  let v592 : BitVec 1 := Scalar.cmpi .eq c8_i32_442 c0_i32_443
  let c1_i32_444 : BitVec 32 := 1#32
  let v593 : BitVec 32 := Scalar.select v592 c1_i32_444 c8_i32_442
  let v594 : BitVec 32 := Scalar.remsi v591 v593
  let c0_i32_446 : BitVec 32 := 0#32
  let v596 : BitVec 1 := Scalar.cmpi .slt v594 c0_i32_446
  let c0_i32_447 : BitVec 32 := 0#32
  let v597 : BitVec 1 := Scalar.cmpi .slt v593 c0_i32_447
  let v598 : BitVec 1 := Scalar.xori v596 v597
  let c0_i32_445 : BitVec 32 := 0#32
  let v595 : BitVec 1 := Scalar.cmpi .ne v594 c0_i32_445
  let v599 : BitVec 1 := Scalar.andi v598 v595
  let v600 : BitVec 32 := Scalar.addi v594 v593
  let v601 : BitVec 32 := Scalar.select v599 v600 v594
  let v610 : Index := Scalar.indexCast v601
  let c0_456 : Index := 0#32
  let c0_457 : Index := 0#32
  ![v610.toNat, 0, 0]
def k0_off8 (d0 : Dev nD) (c1_i32_441 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v591 : BitVec 32 := Scalar.subi v2 c1_i32_441
  let c8_i32_442 : BitVec 32 := 8#32
  let c0_i32_443 : BitVec 32 := 0#32
  let v592 : BitVec 1 := Scalar.cmpi .eq c8_i32_442 c0_i32_443
  let c1_i32_444 : BitVec 32 := 1#32
  let v593 : BitVec 32 := Scalar.select v592 c1_i32_444 c8_i32_442
  let v594 : BitVec 32 := Scalar.remsi v591 v593
  let c0_i32_446 : BitVec 32 := 0#32
  let v596 : BitVec 1 := Scalar.cmpi .slt v594 c0_i32_446
  let c0_i32_447 : BitVec 32 := 0#32
  let v597 : BitVec 1 := Scalar.cmpi .slt v593 c0_i32_447
  let v598 : BitVec 1 := Scalar.xori v596 v597
  let c0_i32_445 : BitVec 32 := 0#32
  let v595 : BitVec 1 := Scalar.cmpi .ne v594 c0_i32_445
  let v599 : BitVec 1 := Scalar.andi v598 v595
  let v600 : BitVec 32 := Scalar.addi v594 v593
  let v601 : BitVec 32 := Scalar.select v599 v600 v594
  let c512_i32_458 : BitVec 32 := 512#32
  let v614 : BitVec 32 := Scalar.muli v601 c512_i32_458
  let v615 : Index := Scalar.indexCast v614
  let c0_459 : Index := 0#32
  ![v615.toNat, 0]
abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Steps.lean ====
/-
# The kernel's body as a sequence of repeated steps

The printed body is one long list of statements. Here it is written again as the kernel's author would say it: the seven
signals, the first two weight copies, the device's own block, the barrier wait, seven times "compute a block and send
it", seven times "await a block and store it", seven times "await a send". `body_eq` says that the printed body is that
program.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

set_option maxRecDepth 16384

noncomputable section

namespace Cert.KernelIdealProof

open Cert.KernelIdeal Cert.KernelIdeal.Gen
open Idealize.ShloMosaic Idealize.ShloMosaic.TcCoe
open Idealize.SL.Sem

variable {F : FTy → Type} [FloatOps F]

/-! ## The buffers the body works on -/

/-- The staged block of `x`. -/
abbrev xM : Memref sig .tc .vmem S512x4096 .f32 := win0_0.stage 0
/-- The weights, all of them. -/
abbrev wM : Memref sig .tc .hbm S4096x2048 .f32 := Memref.whole main_arg1
/-- The staged result. -/
abbrev oM : Memref sig .tc .vmem S4096x256 .f32 := win0_1.stage 0
/-- The block of `x` rounded to bf16. -/
abbrev xbM : Memref sig .tc .vmem S512x4096 .bf16 := Memref.whole cc0_scratch0
/-- The two slabs the columns of the weights are copied to in turn. -/
abbrev wsM : Memref sig .tc .vmem S2x4096x256 .f32 := Memref.whole cc0_scratch1
/-- The eight slots blocks are sent from. -/
abbrev yM : Memref sig .tc .vmem S8x512x256 .bf16 := Memref.whole cc0_scratch2
/-- The eight slots blocks are received in. -/
abbrev rbM : Memref sig .tc .vmem S8x512x256 .bf16 := Memref.whole cc0_scratch3

/-! ## The facts of the printed pieces, stated once for every slot -/

/-- Step `i` of seven treats block `i + 1` of eight. -/
abbrev blk (i : Fin 7) : Fin 8 := ⟨i.val + 1, by omega⟩
/-- The slab block `d` of the weights is copied to. -/
abbrev par (d : Fin 8) : Fin 2 := ⟨d.val % 2, by omega⟩

theorem inb_ws : ∀ (p : Fin 2) a, (![p.val, 0, 0] : Fin 3 → Nat) a + S1x4096x256.size a ≤ S2x4096x256.size a := by decide +kernel
theorem inb_y : ∀ (d : Fin 8) a, (![d.val, 0, 0] : Fin 3 → Nat) a + S1x512x256.size a ≤ S8x512x256.size a := by decide +kernel
theorem inb_s2 : ∀ (p : Fin 2) a, (![p.val] : Fin 1 → Nat) a + S1.size a ≤ S2.size a := by decide +kernel
theorem inb_s8 : ∀ (d : Fin 8) a, (![d.val] : Fin 1 → Nat) a + S1.size a ≤ S8.size a := by decide +kernel

theorem words_y : ∀ i : Fin 7, (Rect.unit (s := S8x512x256) ![(blk i).val, 0, 0] S1x512x256.size (inb_y (blk i))).WholeWords (EltTy.packing .bf16)
  | 0 => wordsbf16_S8x512x256_S1x512x256_1_0_0
  | 1 => wordsbf16_S8x512x256_S1x512x256_2_0_0
  | 2 => wordsbf16_S8x512x256_S1x512x256_3_0_0
  | 3 => wordsbf16_S8x512x256_S1x512x256_4_0_0
  | 4 => wordsbf16_S8x512x256_S1x512x256_5_0_0
  | 5 => wordsbf16_S8x512x256_S1x512x256_6_0_0
  | 6 => wordsbf16_S8x512x256_S1x512x256_7_0_0

theorem packed_y : ∀ i : Fin 7, (Rect.unit (s := S8x512x256) ![(blk i).val, 0, 0] S1x512x256.size (inb_y (blk i))).PackedRows (EltTy.packing .bf16)
  | 0 => packedbf16_S8x512x256_S1x512x256_1_0_0
  | 1 => packedbf16_S8x512x256_S1x512x256_2_0_0
  | 2 => packedbf16_S8x512x256_S1x512x256_3_0_0
  | 3 => packedbf16_S8x512x256_S1x512x256_4_0_0
  | 4 => packedbf16_S8x512x256_S1x512x256_5_0_0
  | 5 => packedbf16_S8x512x256_S1x512x256_6_0_0
  | 6 => packedbf16_S8x512x256_S1x512x256_7_0_0

/-! ## Views and semaphores -/

/-- The columns of the weights that block `d` of device `c` multiplies by. -/
abbrev wCol (c : Dev nD) (d : Fin 8) : Memref sig .tc .hbm S4096x256 .f32 :=
  wM.slice (Rect.unit (s := S4096x2048) (k0_off1 c (BitVec.ofNat 32 d.val)) S4096x256.size (k0_off1_inb c d)) (fun _ => rfl)
/-- Slab `p`. -/
abbrev wSlab (p : Fin 2) : Memref sig .tc .vmem S4096x256 .f32 :=
  (wsM.slice (Rect.unit (s := S2x4096x256) ![p.val, 0, 0] S1x4096x256.size (inb_ws p)) (fun _ => rfl)).squeeze S4096x256 squeezes_S1x4096x256_S4096x256
/-- The slot block `d` is sent from. -/
abbrev ySlot (d : Fin 8) : Memref sig .tc .vmem S512x256 .bf16 :=
  (yM.slice (Rect.unit (s := S8x512x256) ![d.val, 0, 0] S1x512x256.size (inb_y d)) (fun _ => rfl)).squeeze S512x256 squeezes_S1x512x256_S512x256
/-- The slot device `c` fills on the others, as the program spells it. -/
abbrev rbTo (c : Dev nD) : Memref sig .tc .vmem S512x256 .bf16 :=
  (rbM.slice (Rect.unit (s := S8x512x256) (k0_off4 c) S1x512x256.size (k0_off4_inb c)) (fun _ => rfl)).squeeze S512x256 squeezes_S1x512x256_S512x256
/-- The slot device `c` awaits at step `i`, as the program spells it. -/
abbrev rbFrom (c : Dev nD) (i : Fin 7) : Memref sig .tc .vmem S512x256 .bf16 :=
  (rbM.slice (Rect.unit (s := S8x512x256) (k0_off6 c (BitVec.ofNat 32 (1 + i.val))) S1x512x256.size (k0_off6_inb c i)) (fun _ => rfl)).squeeze
    S512x256 squeezes_S1x512x256_S512x256

/-- The semaphore of slab `p`. -/
abbrev slabSem (p : Fin 2) : DmaSem sig := ((cc0_scratch4.slice (Rect.unit (s := S2) ![p.val] S1.size (inb_s2 p))).squeeze S_ squeezes_S1_S_).sem
/-- The semaphore of the sending of block `d`. -/
abbrev sendSem (d : Fin 8) : DmaSem sig := ((cc0_scratch5.slice (Rect.unit (s := S8) ![d.val] S1.size (inb_s8 d))).squeeze S_ squeezes_S1_S_).sem
/-- The semaphore device `c` raises on the others, as the program spells it. -/
abbrev recvTo (c : Dev nD) : DmaSem sig := ((cc0_scratch6.slice (Rect.unit (s := S8) (k0_off3 c) S1.size (k0_off3_inb c))).squeeze S_ squeezes_S1_S_).sem
/-- The semaphore device `c` awaits at step `i`, as the program spells it. -/
abbrev recvFrom (c : Dev nD) (i : Fin 7) : DmaSem sig :=
  ((cc0_scratch6.slice (Rect.unit (s := S8) (k0_off5 c (BitVec.ofNat 32 (1 + i.val))) S1.size (k0_off5_inb c i))).squeeze S_ squeezes_S1_S_).sem
/-- The barrier semaphore. -/
abbrev bar : Sem sig := (SemArray.scalar (sig.barrier 0 rfl) : Sems sig S_).sem

/-- The device signalled at step `i`, as the program spells it. -/
def sigDev (c : Dev nD) : Fin 7 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩
  | 4 => ⟨k0_dev5 c, k0_dev5_lt c⟩
  | 5 => ⟨k0_dev6 c, k0_dev6_lt c⟩
  | 6 => ⟨k0_dev7 c, k0_dev7_lt c⟩
/-- The device sent to at step `i`, as the program spells it. -/
def dstDev (c : Dev nD) : Fin 7 → Dev nD
  | 0 => ⟨k0_dev8 c, k0_dev8_lt c⟩
  | 1 => ⟨k0_dev9 c, k0_dev9_lt c⟩
  | 2 => ⟨k0_dev10 c, k0_dev10_lt c⟩
  | 3 => ⟨k0_dev11 c, k0_dev11_lt c⟩
  | 4 => ⟨k0_dev12 c, k0_dev12_lt c⟩
  | 5 => ⟨k0_dev13 c, k0_dev13_lt c⟩
  | 6 => ⟨k0_dev14 c, k0_dev14_lt c⟩

/-! ## The steps -/

abbrev Body (F : FTy → Type) [FloatOps F] (α : Type) : Type 1 := Prog (TpuEff nD τ sig (Elt F) Λ₀ .tc) α

/-- One step for each of seven. -/
def seven (f : Fin 7 → Body F PUnit) : Body F PUnit := do
  f 0; f 1; f 2; f 3; f 4; f 5; f 6

/-- The signal of step `i`. -/
def signalStep (c : Dev nD) (i : Fin 7) : Body F PUnit :=
  semSignalWord (sigDev c i) bar 1#32

/-- Copy the weights of block `d` to their slab. -/
def fetchSlab (c : Dev nD) (d : Fin 8) : Body F PUnit :=
  Prog.lift (.enqueueDma (wCol c d) (.here (wSlab (par d))) (.dma (slabSem (par d))) (View.wordExact_bits rfl) ((View.wordExact_bits rfl).reshape _ _)
    ⟨Or.inl rfl, trivial⟩)

/-- Await the weights of block `d`. -/
def awaitSlab (c : Dev nD) (d : Fin 8) : Body F PUnit :=
  Prog.lift (.waitDma2 (slabSem (par d)) (wCol c d) (wSlab (par d)) (View.wordExact_bits rfl) ((View.wordExact_bits rfl).reshape _ _))

/-- The slab holding block `d` of the weights, read. -/
def readSlab (d : Fin 8) : Body F (Vec F S1x4096x256 .f32) :=
  Prog.lift (.load wsM (Rect.unit (s := S2x4096x256) ![(par d).val, 0, 0] S1x4096x256.size (inb_ws (par d))).toLoadRect (View.loadsAt_vmem h_S1x4096x256))

/-- The rounded block of `x`, read. -/
def readX : Body F (Vec F S512x4096 .bf16) :=
  Prog.lift (.load xbM (Rect.unit (s := S512x4096) ![0, 0] S512x4096.size inb_S512x4096_S512x4096_0_0).toLoadRect (View.loadsAt_vmem h_S512x4096))

/-- Read the block of `x`, round it and keep it. -/
def roundX : Body F PUnit := do
  let v ← Prog.lift (.load xM (Rect.unit (s := S512x4096) ![0, 0] S512x4096.size inb_S512x4096_S512x4096_0_0).toLoadRect (View.loadsAt_vmem h_S512x4096))
  let _ ← readX (F := F)
  Prog.lift (.store xbM (Rect.unit (s := S512x4096) ![0, 0] S512x4096.size inb_S512x4096_S512x4096_0_0) (k0_pay1 v) Finset.univ
    (View.stores_vmem h_S512x4096 ((Memref.isWhole_whole cc0_scratch0).storeExact_slice rfl _ packedbf16_S512x4096_S512x4096_0_0) (fun _ => rfl)) (.inl rfl))

/-- The device's own block: computed and stored to its rows of the result; the slab is filled again between. -/
def ownBlock (c : Dev nD) : Body F PUnit := do
  awaitSlab c 0
  let w ← readSlab (F := F) 0
  let x ← readX (F := F)
  fetchSlab c 2
  let _ ← Prog.lift (.load oM (Rect.unit (s := S4096x256) (k0_off2 c) S512x256.size (k0_off2_inb c)).toLoadRect (View.loadsAt_vmem h_S512x256))
  Prog.lift (.store oM (Rect.unit (s := S4096x256) (k0_off2 c) S512x256.size (k0_off2_inb c)) (k0_pay2 w x) Finset.univ
    (View.stores_vmem_bits_univ h_S512x256 rfl) (.inl rfl))

/-- Await the seven signals. -/
def awaitAll : Body F PUnit := semWaitWord bar 7#32

/-- The send of block `i + 1`. -/
def sendBlock (c : Dev nD) (i : Fin 7) : Body F PUnit :=
  Prog.lift (.enqueueDma (ySlot (blk i)) (.remote (Dev.tc (dstDev c i)) (rbTo c) (.dma (sendSem (blk i)))) (.dma (recvTo c))
    (((Memref.isWhole_whole cc0_scratch2).wordExact_slice rfl _ (words_y i)).reshape _ _)
    (((Memref.isWhole_whole cc0_scratch3).wordExact_slice rfl _ (k0_off4_wordsbf16 c)).reshape _ _) ⟨⟨rfl, Or.inl rfl⟩, trivial⟩)

/-- The store of a block to slot `i + 1`. -/
def putBlock (i : Fin 7) (v : FVec F S1x512x256 .bf16) : Body F PUnit := do
  let _ ← Prog.lift (.load yM (Rect.unit (s := S8x512x256) ![(blk i).val, 0, 0] S1x512x256.size (inb_y (blk i))).toLoadRect (View.loadsAt_vmem h_S1x512x256))
  Prog.lift (.store yM (Rect.unit (s := S8x512x256) ![(blk i).val, 0, 0] S1x512x256.size (inb_y (blk i))) v Finset.univ
    (View.stores_vmem h_S1x512x256 ((Memref.isWhole_whole cc0_scratch2).storeExact_slice rfl _ (packed_y i)) (fun _ => rfl)) (.inl rfl))

/-- The weights two blocks ahead, while there are any. -/
def fetchAhead (c : Dev nD) (i : Fin 7) : Body F PUnit :=
  if h : i.val < 5 then fetchSlab c ⟨i.val + 3, by omega⟩ else pure ⟨⟩

/-- Block `i + 1`: computed, rounded, stored to its slot and sent. -/
def sendStep (c : Dev nD) (i : Fin 7) : Body F PUnit := do
  awaitSlab c (blk i)
  let w ← readSlab (F := F) (blk i)
  let x ← readX (F := F)
  fetchAhead c i
  putBlock i (k0_pay4 (k0_pay3 w x))
  sendBlock c i

/-- The block of the device `i + 1` before: awaited, read and stored to its rows of the result. -/
def recvStep (c : Dev nD) (i : Fin 7) : Body F PUnit := do
  Prog.lift (.waitDma2 (recvFrom c i) (ySlot (blk i)) (rbFrom c i)
    (((Memref.isWhole_whole cc0_scratch2).wordExact_slice rfl _ (words_y i)).reshape _ _)
    (((Memref.isWhole_whole cc0_scratch3).wordExact_slice rfl _ (k0_off6_wordsbf16 c i)).reshape _ _))
  let v ← Prog.lift (.load rbM (Rect.unit (s := S8x512x256) (k0_off7 c (BitVec.ofNat 32 (1 + i.val))) S1x512x256.size (k0_off7_inb c i)).toLoadRect
    (View.loadsAt_vmem h_S1x512x256))
  let _ ← Prog.lift (.load oM (Rect.unit (s := S4096x256) (k0_off8 c (BitVec.ofNat 32 (1 + i.val))) S512x256.size (k0_off8_inb c i)).toLoadRect
    (View.loadsAt_vmem h_S512x256))
  Prog.lift (.store oM (Rect.unit (s := S4096x256) (k0_off8 c (BitVec.ofNat 32 (1 + i.val))) S512x256.size (k0_off8_inb c i)) (k0_pay14 v) Finset.univ
    (View.stores_vmem_bits_univ h_S512x256 rfl) (.inl rfl))

/-- The end of the send of block `i + 1`. -/
def awaitSend (c : Dev nD) (i : Fin 7) : Body F PUnit :=
  Prog.lift (.waitDma2 (sendSem (blk i)) (rbTo c) (ySlot (blk i))
    (((Memref.isWhole_whole cc0_scratch3).wordExact_slice rfl _ (k0_off4_wordsbf16 c)).reshape _ _)
    (((Memref.isWhole_whole cc0_scratch2).wordExact_slice rfl _ (words_y i)).reshape _ _))

/-- The whole body on device `c`. -/
def run (c : Dev nD) : Body F PUnit := do
  seven (signalStep c)
  fetchSlab c 0
  fetchSlab c 1
  roundX
  ownBlock c
  awaitAll
  seven (sendStep c)
  seven (recvStep c)
  seven (awaitSend c)

theorem body_eq : cc0_body (F := F) xM (hstage0_0 0) wM (Memref.isWhole_whole _) oM (hstage0_1 0) xbM (Memref.isWhole_whole _) wsM (Memref.isWhole_whole _)
      yM (Memref.isWhole_whole _) rbM (Memref.isWhole_whole _) cc0_scratch4 cc0_scratch5 cc0_scratch6
    = Prog.op .deviceId (fun c => run c) := by
  rw [cc0_body_eq_skeleton]
  unfold cc0_body_skel
  simp only [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton, k0_part10_eq_skeleton, k0_part11_eq_skeleton, k0_part12_eq_skeleton,
    k0_part13_eq_skeleton, k0_part14_eq_skeleton, k0_part15_eq_skeleton, k0_part16_eq_skeleton, k0_part17_eq_skeleton, k0_part18_eq_skeleton,
    k0_part19_eq_skeleton, k0_part20_eq_skeleton, k0_part21_eq_skeleton, k0_part22_eq_skeleton, k0_part23_eq_skeleton, k0_part24_eq_skeleton,
    k0_part25_eq_skeleton, k0_part26_eq_skeleton, k0_part27_eq_skeleton]
  unfold k0_part1_skel k0_part2_skel k0_part3_skel k0_part4_skel k0_part5_skel k0_part6_skel k0_part7_skel k0_part8_skel k0_part9_skel k0_part10_skel
    k0_part11_skel k0_part12_skel k0_part13_skel k0_part14_skel k0_part15_skel k0_part16_skel k0_part17_skel k0_part18_skel k0_part19_skel k0_part20_skel
    k0_part21_skel k0_part22_skel k0_part23_skel k0_part24_skel k0_part25_skel k0_part26_skel k0_part27_skel
  unfold run seven signalStep ownBlock awaitAll sendStep recvStep awaitSend roundX sendBlock putBlock fetchAhead fetchSlab awaitSlab readSlab readX
  simp only [semSignalWord, semWaitWord, Prog.lift, Prog.bind_op, Prog.bind_ret, Prog.pure_eq_ret, Prog.bind_assoc]
  rfl

end Cert.KernelIdealProof
-- ==== Proof.KernelIdeal.Views.lean ====
/-
# Where each step reads and writes, and what it finds there

Closed forms of the printed offsets and device numbers; the slots, slabs and row blocks as sets of elements, apart and
covering their buffers; and for each buffer one function giving its contents once filled, with the equations that say
that each copy, load and store of the body agrees with it.
-/
module

public import proofs.«01_k».proof.Proof.KernelIdeal.Steps
public import Idealize.ShloMosaic.Lib.ValueLayout
public import Idealize.ShloMosaic.Lib.Ring

@[expose] public section

set_option maxRecDepth 16384

noncomputable section

namespace Cert.KernelIdealProof

open Cert.KernelIdeal Cert.KernelIdeal.Gen
open Idealize.ShloMosaic Idealize.ShloMosaic.TcCoe Idealize.ShloMosaic.ValueIdx
open Idealize.SL.Sem

variable {F : FTy → Type} [FloatOps F]

/-! ## Neighbours -/

/-- The device `d` after `c`. -/
def tgt (c : Dev nD) (d : Fin 8) : Dev nD := ⟨(c.val + d.val) % 8, Nat.mod_lt _ (by decide)⟩
/-- The device `i + 1` after `c`. -/
def nbr (c : Dev nD) (i : Fin 7) : Dev nD := tgt c (blk i)
/-- The device `i + 1` before `c`. -/
def src (c : Dev nD) (i : Fin 7) : Dev nD := ⟨(c.val + (7 - i.val)) % 8, Nat.mod_lt _ (by decide)⟩

theorem src_nbr : ∀ c i, src (nbr c i) i = c := by decide +kernel
theorem nbr_src : ∀ c i, nbr (src c i) i = c := by decide +kernel
theorem src_rev : ∀ c i, src c (Fin.rev i) = nbr c i := by decide +kernel
theorem nbr_rev : ∀ c i, nbr c (Fin.rev i) = src c i := by decide +kernel
theorem nbr_ne : ∀ c i, nbr c i ≠ c := by decide +kernel
theorem src_ne : ∀ c i, src c i ≠ c := by decide +kernel
theorem tgt_zero : ∀ c, tgt c 0 = c := by decide +kernel
theorem nbr_inj : ∀ c, Function.Injective (nbr c) := by decide +kernel
theorem src_inj : ∀ c, Function.Injective (src c) := by decide +kernel
theorem src_surj : ∀ c s : Dev nD, s ≠ c → ∃ i, src c i = s := by decide +kernel

/-- For each step, the permutation of the devices that it goes along. -/
def around (i : Fin 7) : Dev nD ≃ Dev nD := ⟨fun c => nbr c i, fun c => src c i, fun c => src_nbr c i, fun c => nbr_src c i⟩

theorem sigDev_eq : ∀ c i, sigDev c i = nbr c i := by decide +kernel
theorem dstDev_eq : ∀ c i, dstDev c i = nbr c i := by decide +kernel

/-! ## Offsets -/

theorem off1_eq : ∀ (c : Dev nD) (d : Fin 8), k0_off1 c (BitVec.ofNat 32 d.val) = ![0, 256 * (tgt c d).val] := by decide +kernel
theorem off5_eq : ∀ (c : Dev nD) (i : Fin 7), k0_off5 c (BitVec.ofNat 32 (1 + i.val)) = ![(src c i).val] := by decide +kernel
theorem off6_eq : ∀ (c : Dev nD) (i : Fin 7), k0_off6 c (BitVec.ofNat 32 (1 + i.val)) = ![(src c i).val, 0, 0] := by decide +kernel
theorem off7_eq : ∀ (c : Dev nD) (i : Fin 7), k0_off7 c (BitVec.ofNat 32 (1 + i.val)) = ![(src c i).val, 0, 0] := by decide +kernel
theorem off8_eq : ∀ (c : Dev nD) (i : Fin 7), k0_off8 c (BitVec.ofNat 32 (1 + i.val)) = ![512 * (src c i).val, 0] := by decide +kernel

/-! ## The views at closed-form offsets -/

theorem inb_col : ∀ (t : Dev nD) a, (![0, 256 * t.val] : Fin 2 → Nat) a + S4096x256.size a ≤ S4096x2048.size a := by decide +kernel
theorem inb_row : ∀ (s : Dev nD) a, (![512 * s.val, 0] : Fin 2 → Nat) a + S512x256.size a ≤ S4096x256.size a := by decide +kernel

/-- Column block `t` of the weights. -/
abbrev colRect (t : Dev nD) : Rect S4096x2048 := Rect.unit (s := S4096x2048) ![0, 256 * t.val] S4096x256.size (inb_col t)
/-- Slab `p`. -/
abbrev slabRect (p : Fin 2) : Rect S2x4096x256 := Rect.unit (s := S2x4096x256) ![p.val, 0, 0] S1x4096x256.size (inb_ws p)
/-- Slot `d` of eight. -/
abbrev slotRect (d : Fin 8) : Rect S8x512x256 := Rect.unit (s := S8x512x256) ![d.val, 0, 0] S1x512x256.size (inb_y d)
/-- Row block `s` of the result. -/
abbrev rowRect (s : Dev nD) : Rect S4096x256 := Rect.unit (s := S4096x256) ![512 * s.val, 0] S512x256.size (inb_row s)

/-- The slot of device `s` among the received blocks. -/
abbrev rbSlot (s : Dev nD) : Memref sig .tc .vmem S512x256 .bf16 := (rbM.slice (slotRect s) (fun _ => rfl)).squeeze S512x256 squeezes_S1x512x256_S512x256
/-- The semaphore of device `s` among those of the received blocks. -/
abbrev recvSem (s : Dev nD) : DmaSem sig := ((cc0_scratch6.slice (Rect.unit (s := S8) ![s.val] S1.size (inb_s8 s))).squeeze S_ squeezes_S1_S_).sem

theorem rbTo_eq (c : Dev nD) : rbTo c = rbSlot c := by
  unfold rbTo rbSlot slotRect; congr 2; exact Rect.unit_congr (k0_off4_eq c) _ _
theorem rbFrom_eq (c : Dev nD) (i : Fin 7) : rbFrom c i = rbSlot (src c i) := by
  unfold rbFrom rbSlot slotRect; congr 2; exact Rect.unit_congr (off6_eq c i) _ _
theorem recvTo_eq : ∀ c : Dev nD, recvTo c = recvSem c := by decide +kernel
theorem recvFrom_eq : ∀ (c : Dev nD) (i : Fin 7), recvFrom c i = recvSem (src c i) := by decide +kernel

/-! ## The sets of elements -/

/-- The elements of slot `d`. -/
def slotSet (d : Fin 8) : Finset S8x512x256.Idx := (slotRect d).set
/-- The elements of slab `p`. -/
def slabSet (p : Fin 2) : Finset S2x4096x256.Idx := (slabRect p).set
/-- The elements of row block `s`. -/
def rowSet (s : Dev nD) : Finset S4096x256.Idx := (rowRect s).set

theorem mem_slotSet {d : Fin 8} {i : S8x512x256.Idx} : i ∈ slotSet d ↔ (i 0).val = d.val := by
  unfold slotSet slotRect
  rw [Rect.mem_set_unit]
  have h1 : (i 1).val < 512 := (i 1).isLt
  have h2 : (i 2).val < 256 := (i 2).isLt
  constructor
  · intro h; have := h 0; simp at this; omega
  · intro h a; fin_cases a <;> simp <;> omega
theorem mem_slabSet {p : Fin 2} {i : S2x4096x256.Idx} : i ∈ slabSet p ↔ (i 0).val = p.val := by
  unfold slabSet slabRect
  rw [Rect.mem_set_unit]
  have h1 : (i 1).val < 4096 := (i 1).isLt
  have h2 : (i 2).val < 256 := (i 2).isLt
  constructor
  · intro h; have := h 0; simp at this; omega
  · intro h a; fin_cases a <;> simp <;> omega
theorem mem_rowSet {s : Dev nD} {i : S4096x256.Idx} : i ∈ rowSet s ↔ (i 0).val / 512 = s.val := by
  unfold rowSet rowRect
  rw [Rect.mem_set_unit]
  have h0 : (i 0).val < 4096 := (i 0).isLt
  have h1 : (i 1).val < 256 := (i 1).isLt
  constructor
  · intro h; have := h 0; simp at this; omega
  · intro h a; fin_cases a <;> simp <;> omega

theorem slotSet_disjoint (d d' : Fin 8) (h : d ≠ d') : Disjoint (slotSet d) (slotSet d') :=
  Finset.disjoint_left.mpr fun i hi hi' => h (Fin.ext ((mem_slotSet.mp hi).symm.trans (mem_slotSet.mp hi')))
theorem slabSet_disjoint (p p' : Fin 2) (h : p ≠ p') : Disjoint (slabSet p) (slabSet p') :=
  Finset.disjoint_left.mpr fun i hi hi' => h (Fin.ext ((mem_slabSet.mp hi).symm.trans (mem_slabSet.mp hi')))
theorem rowSet_disjoint (s s' : Dev nD) (h : s ≠ s') : Disjoint (rowSet s) (rowSet s') :=
  Finset.disjoint_left.mpr fun i hi hi' => h (Fin.ext ((mem_rowSet.mp hi).symm.trans (mem_rowSet.mp hi')))

theorem slotSet_cover : Finset.univ.biUnion slotSet = Finset.univ :=
  Finset.eq_univ_iff_forall.mpr fun i => Finset.mem_biUnion.mpr ⟨i 0, Finset.mem_univ _, mem_slotSet.mpr rfl⟩
theorem slabSet_cover : Finset.univ.biUnion slabSet = Finset.univ :=
  Finset.eq_univ_iff_forall.mpr fun i => Finset.mem_biUnion.mpr ⟨i 0, Finset.mem_univ _, mem_slabSet.mpr rfl⟩
theorem rowSet_cover : Finset.univ.biUnion rowSet = Finset.univ :=
  Finset.eq_univ_iff_forall.mpr fun i => Finset.mem_biUnion.mpr
    ⟨⟨(i 0).val / 512, by have : (i 0).val < 4096 := (i 0).isLt; show _ < 8; omega⟩, Finset.mem_univ _, mem_rowSet.mpr rfl⟩

theorem ySlot_set (d : Fin 8) : (ySlot d).view.set = slotSet d := by
  unfold ySlot slotSet; rw [Memref.set_view_squeeze]; exact View.set_slice_whole _ _
theorem rbSlot_set (s : Dev nD) : (rbSlot s).view.set = slotSet s := by
  unfold rbSlot slotSet; rw [Memref.set_view_squeeze]; exact View.set_slice_whole _ _
theorem wSlab_set (p : Fin 2) : (wSlab p).view.set = slabSet p := by
  unfold wSlab slabSet; rw [Memref.set_view_squeeze]; exact View.set_slice_whole _ _
theorem y_acc (d : Fin 8) : (yM.access (slotRect d)).set = slotSet d := View.set_slice_whole _ _
theorem rb_acc (d : Fin 8) : (rbM.access (slotRect d)).set = slotSet d := View.set_slice_whole _ _
theorem ws_acc (p : Fin 2) : (wsM.access (slabRect p)).set = slabSet p := View.set_slice_whole _ _
theorem o_acc (s : Dev nD) : (oM.access (rowRect s)).set = rowSet s := View.set_slice_whole _ _

/-! ## What the buffers hold once filled

`X c` is device `c`'s block of `x` and `W c` its copy of the weights. -/

section Contents

variable (X : Dev nD → Vec F S512x4096 .f32) (W : Dev nD → Vec F S4096x2048 .f32)

/-- A column of column block `t` as a column of the weights. -/
def colIx (t : Dev nD) (j : Fin 256) : Fin 2048 := ⟨256 * t.val + j.val, by have : t.val < 8 := t.isLt; omega⟩

/-- Column block `t` of device `c`'s weights, as a slab read. -/
def wBlk (c t : Dev nD) : Vec F S1x4096x256 .f32 := fun j => W c (ix2 (n0 := 4096) (n1 := 2048) (j 1) (colIx t (j 2)))
/-- Device `c`'s block of `x`, rounded. -/
def xbA (c : Dev nD) : Vec F S512x4096 .bf16 := k0_pay1 (X c)
/-- The block device `c` computes for device `t`, rounded for sending. -/
def sentV (c t : Dev nD) : FVec F S1x512x256 .bf16 := k0_pay4 (k0_pay3 (wBlk W c t) (xbA X c))

/-- The slab holding column block `t`. -/
def wsA (c t : Dev nD) : Vec F S2x4096x256 .f32 := fun i => W c (ix2 (n0 := 4096) (n1 := 2048) (i 1) (colIx t (i 2)))
/-- The slots sent from: slot `d` holds the block for the device `d` after. -/
def yA (c : Dev nD) : Vec F S8x512x256 .bf16 := fun i => sentV X W c (tgt c (i 0)) (ix3 (n0 := 1) (n1 := 512) (n2 := 256) 0 (i 1) (i 2))
/-- The slots received in: slot `s` holds the block device `s` computes for this one. -/
def rbA (c : Dev nD) : Vec F S8x512x256 .bf16 := fun i => sentV X W (i 0) c (ix3 (n0 := 1) (n1 := 512) (n2 := 256) 0 (i 1) (i 2))
/-- Row block `s` of device `c`'s result. -/
def rowV (c s : Dev nD) : Vec F S512x256 .f32 := if s = c then k0_pay2 (wBlk W c c) (xbA X c) else k0_pay14 (sentV X W s c)
/-- Device `c`'s result. -/
def outA (c : Dev nD) : Vec F S4096x256 .f32 := fun i =>
  rowV X W c ⟨(i 0).val / 512, by have : (i 0).val < 4096 := (i 0).isLt; show _ < 8; omega⟩
    (ix2 (n0 := 512) (n1 := 256) ⟨(i 0).val % 512, Nat.mod_lt _ (by decide)⟩ (i 1))

/-! ### The embeddings -/

theorem slot_emb (m : Memref sig .tc .vmem S8x512x256 .bf16) (d : Fin 8) (x : Fin 512) (y : Fin 256) :
    ((m.slice (slotRect d) (fun _ => rfl)).squeeze S512x256 squeezes_S1x512x256_S512x256).view.emb (ix2 x y) = m.view.emb (ix3 d x y) := by
  show m.view.emb ((slotRect d).emb (Shape.reshapeEquiv squeezes_S1x512x256_S512x256.numel_eq (ix2 x y))) = _
  rw [reshapeEquiv_ix2_1ab]
  congr 1
  funext a; fin_cases a
  · exact Fin.ext (show d.val + 1 * 0 = d.val by omega)
  · exact Fin.ext (show 0 + 1 * x.val = x.val by omega)
  · exact Fin.ext (show 0 + 1 * y.val = y.val by omega)

theorem slab_emb (p : Fin 2) (x : Fin 4096) (y : Fin 256) : (wSlab p).view.emb (ix2 x y) = ix3 p x y := by
  show (slabRect p).emb (Shape.reshapeEquiv squeezes_S1x4096x256_S4096x256.numel_eq (ix2 x y)) = _
  rw [reshapeEquiv_ix2_1ab]
  funext a; fin_cases a
  · exact Fin.ext (show p.val + 1 * 0 = p.val by omega)
  · exact Fin.ext (show 0 + 1 * x.val = x.val by omega)
  · exact Fin.ext (show 0 + 1 * y.val = y.val by omega)

theorem col_emb (c : Dev nD) (d : Fin 8) (x : Fin 4096) (y : Fin 256) : (wCol c d).view.emb (ix2 x y) = ix2 x (colIx (tgt c d) y) := by
  have h := off1_eq c d
  funext a; fin_cases a
  · exact Fin.ext (show k0_off1 c (BitVec.ofNat 32 d.val) 0 + 1 * x.val = x.val by rw [h]; show 0 + 1 * x.val = x.val; omega)
  · exact Fin.ext (show k0_off1 c (BitVec.ofNat 32 d.val) 1 + 1 * y.val = 256 * (tgt c d).val + y.val by
      rw [h]; show 256 * (tgt c d).val + 1 * y.val = _; omega)

theorem slotRect_emb (d : Fin 8) (j : S1x512x256.Idx) : (slotRect d).emb j = (ix3 d (j 1) (j 2) : S8x512x256.Idx) := by
  have h0 : (j 0).val < 1 := (j 0).isLt
  funext a; fin_cases a
  · exact Fin.ext (show d.val + 1 * (j 0).val = d.val by omega)
  · exact Fin.ext (show 0 + 1 * (j 1).val = (j 1).val by omega)
  · exact Fin.ext (show 0 + 1 * (j 2).val = (j 2).val by omega)

theorem slabRect_emb (p : Fin 2) (j : S1x4096x256.Idx) : (slabRect p).emb j = (ix3 p (j 1) (j 2) : S2x4096x256.Idx) := by
  have h0 : (j 0).val < 1 := (j 0).isLt
  funext a; fin_cases a
  · exact Fin.ext (show p.val + 1 * (j 0).val = p.val by omega)
  · exact Fin.ext (show 0 + 1 * (j 1).val = (j 1).val by omega)
  · exact Fin.ext (show 0 + 1 * (j 2).val = (j 2).val by omega)

theorem row_emb_val (s : Dev nD) (j : S512x256.Idx) : ((rowRect s).emb j 0).val = 512 * s.val + (j 0).val ∧ (rowRect s).emb j 1 = j 1 :=
  ⟨show 512 * s.val + 1 * (j 0).val = _ by omega, Fin.ext (show 0 + 1 * (j 1).val = (j 1).val by omega)⟩

/-- An index of one block is its last two coordinates. -/
theorem one_ix (j : S1x512x256.Idx) : ix3 (n0 := 1) (n1 := 512) (n2 := 256) 0 (j 1) (j 2) = j := by
  have h0 : (j 0).val < 1 := (j 0).isLt
  funext a; fin_cases a
  · exact Fin.ext (show 0 = (j 0).val by omega)
  · rfl
  · rfl

/-! ### What is read and written -/

/-- A slab the columns of block `d` were copied to holds them. -/
theorem slab_landed (c : Dev nD) (d : Fin 8) (fd : Vec F S2x4096x256 .f32) : ∀ i ∈ slabSet (par d),
    (wSlab (par d)).view.write (Elt F) fd ((wCol c d).view.read (Elt F) (W c)) Finset.univ i = wsA W c (tgt c d) i := fun i hi => by
  obtain ⟨p, x, y, rfl⟩ : ∃ (p : Fin 2) (x : Fin 4096) (y : Fin 256), i = ix3 p x y := ⟨i 0, i 1, i 2, eq_ix3 i⟩
  obtain rfl : p = par d := Fin.ext (mem_slabSet.mp hi)
  have hr : (wCol c d).view.read (Elt F) (W c) (ix2 x y) = W c (ix2 x (colIx (tgt c d) y)) := congrArg (W c) (col_emb c d x y)
  refine Eq.trans ?_ hr
  generalize (wCol c d).view.read (Elt F) (W c) = w
  rw [← slab_emb]
  exact View.write_emb_of_mem _ _ (Finset.mem_univ _)

/-- A load of a slab reads the columns it holds. -/
theorem read_slab (c t : Dev nD) (p : Fin 2) : wsM.view.readAt (Elt F) (slabRect p).toLoadRect (wsA W c t) = wBlk W c t := by
  funext j
  show wsA W c t ((slabRect p).emb j) = _
  rw [slabRect_emb]; rfl

/-- A block stored to its slot. -/
theorem put_landed (c : Dev nD) (i : Fin 7) (f : Vec F S8x512x256 .bf16) : ∀ x ∈ slotSet (blk i),
    (yM.access (slotRect (blk i))).write (Elt F) f (sentV X W c (nbr c i)) Finset.univ x = yA X W c x := fun z hz => by
  obtain ⟨p, x, y, rfl⟩ : ∃ (p : Fin 8) (x : Fin 512) (y : Fin 256), z = ix3 p x y := ⟨z 0, z 1, z 2, eq_ix3 z⟩
  obtain rfl : p = blk i := Fin.ext (mem_slotSet.mp hz)
  have hr : yA X W c (ix3 (blk i) x y) = sentV X W c (nbr c i) (ix3 (n0 := 1) 0 x y) := rfl
  rw [hr]
  generalize sentV X W c (nbr c i) = w
  have he : (ix3 (blk i) x y : S8x512x256.Idx) = (slotRect (blk i)).emb (ix3 (n0 := 1) 0 x y) := (slotRect_emb (blk i) (ix3 (n0 := 1) 0 x y)).symm
  rw [he]
  exact View.write_emb_of_mem (v := yM.access (slotRect (blk i))) _ _ (Finset.mem_univ _)

/-- What is read from the slot sent from at step `i`. -/
theorem read_y (c : Dev nD) (i : Fin 7) (x : Fin 512) (y : Fin 256) :
    (ySlot (blk i)).view.read (Elt F) (yA X W c) (ix2 x y) = rbA X W (nbr c i) (ix3 c x y) := by
  have h : (ySlot (blk i)).view.emb (ix2 x y) = ix3 (blk i) x y := slot_emb yM (blk i) x y
  have hr : yA X W c (ix3 (blk i) x y) = sentV X W c (nbr c i) (ix3 (n0 := 1) 0 x y) := rfl
  have hr' : rbA X W (nbr c i) (ix3 c x y) = sentV X W c (nbr c i) (ix3 (n0 := 1) 0 x y) := rfl
  rw [View.read_apply, h, hr, hr']
  rfl

/-- A sent block landed in the slot of its sender. -/
theorem send_landed (c : Dev nD) (i : Fin 7) (fd : Vec F S8x512x256 .bf16) : ∀ x ∈ slotSet c,
    (rbSlot c).view.write (Elt F) fd ((ySlot (blk i)).view.read (Elt F) (yA X W c)) Finset.univ x = rbA X W (nbr c i) x := fun z hz => by
  obtain ⟨p, x, y, rfl⟩ : ∃ (p : Fin 8) (x : Fin 512) (y : Fin 256), z = ix3 p x y := ⟨z 0, z 1, z 2, eq_ix3 z⟩
  obtain rfl : p = c := Fin.ext (mem_slotSet.mp hz)
  have hr := read_y X W p i x y
  generalize (ySlot (blk i)).view.read (Elt F) (yA X W p) = w at hr ⊢
  rw [← hr, show (ix3 p x y : S8x512x256.Idx) = (rbSlot p).view.emb (ix2 x y) from (slot_emb rbM p x y).symm]
  exact View.write_emb_of_mem _ _ (Finset.mem_univ _)

/-- A load of the slot of device `s` reads the block it sent. -/
theorem read_rb (c s : Dev nD) : rbM.view.readAt (Elt F) (slotRect s).toLoadRect (rbA X W c) = sentV X W s c := by
  funext j
  show rbA X W c ((slotRect s).emb j) = _
  rw [slotRect_emb]; exact congrArg _ (one_ix j)

/-- Row block `s` stored. -/
theorem row_landed (c s : Dev nD) (f : Vec F S4096x256 .f32) : ∀ x ∈ rowSet s,
    (oM.access (rowRect s)).write (Elt F) f (rowV X W c s) Finset.univ x = outA X W c x := fun z hz => by
  obtain ⟨x, y, rfl⟩ : ∃ (x : Fin 4096) (y : Fin 256), z = ix2 x y := ⟨z 0, z 1, eq_ix2 z⟩
  have hx : x.val / 512 = s.val := mem_rowSet.mp hz
  have hs : (⟨x.val / 512, by omega⟩ : Dev nD) = s := Fin.ext hx
  have hr : outA X W c (ix2 x y) = rowV X W c s (ix2 ⟨x.val % 512, Nat.mod_lt _ (by decide)⟩ y) := by rw [← hs]; rfl
  rw [hr]
  generalize rowV X W c s = w
  have he : (ix2 x y : S4096x256.Idx) = (rowRect s).emb (ix2 ⟨x.val % 512, Nat.mod_lt _ (by decide)⟩ y) := by
    have h := row_emb_val s (ix2 ⟨x.val % 512, Nat.mod_lt _ (by decide)⟩ y)
    funext a; fin_cases a
    · refine Fin.ext (Eq.trans ?_ h.1.symm)
      show x.val = 512 * s.val + x.val % 512
      omega
    · exact h.2.symm
  rw [he]
  exact View.write_emb_of_mem (v := oM.access (rowRect s)) _ _ (Finset.mem_univ _)

theorem rowV_own (c : Dev nD) : rowV X W c c = k0_pay2 (wBlk W c c) (xbA X c) := if_pos rfl
theorem rowV_other (c s : Dev nD) (h : s ≠ c) : rowV X W c s = k0_pay14 (sentV X W s c) := if_neg h

theorem zero2 : (![0, 0] : Fin 2 → Nat) = fun _ => 0 := funext fun a => by fin_cases a <;> rfl

theorem read_x (f : Vec F S512x4096 .f32) :
    xM.view.readAt (Elt F) (Rect.unit (s := S512x4096) ![0, 0] S512x4096.size inb_S512x4096_S512x4096_0_0).toLoadRect f = f :=
  Memref.readAt_unit_zero (Elt F) cc0_stg0_0 zero2 _ f
theorem read_xb (f : Vec F S512x4096 .bf16) :
    xbM.view.readAt (Elt F) (Rect.unit (s := S512x4096) ![0, 0] S512x4096.size inb_S512x4096_S512x4096_0_0).toLoadRect f = f :=
  Memref.readAt_unit_zero (Elt F) cc0_scratch0 zero2 _ f
theorem write_xb (f w : Vec F S512x4096 .bf16) :
    (xbM.access (Rect.unit (s := S512x4096) ![0, 0] S512x4096.size inb_S512x4096_S512x4096_0_0)).write (Elt F) f w Finset.univ = w :=
  Memref.write_access_unit_zero_univ (Elt F) cc0_scratch0 zero2 _ f w

end Contents

end Cert.KernelIdealProof
-- ==== Proof.KernelIdeal.Cells.lean ====
/-
# The cells, the schedule and what each device owes

Every device has one barrier cell, a cell for each of its seven sends and a cell for each of the seven blocks it
receives. The barrier cell has seven duties, one for each of the other devices; the others have one. All indices are
steps: at step `i` device `c` signals and sends to `nbr c i`, and receives from `src c i`.
-/
module

public import proofs.«01_k».proof.Proof.KernelIdeal.Views
public import Idealize.ShloMosaic.Lib.Transfers
public import Idealize.ShloMosaic.Lib.Rounds

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline's, the rounds' with seven duties, the counters of local copies -/

abbrev UB : Type := URounds (GSem nD τ sig) (Fin 7)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR
abbrev EC : UEmb Counters (MT nD τ sig Unit (Elt F) ℕ UU ℕ) := countersEmb

variable (X : Dev nD → Vec F S512x4096 .f32) (W : Dev nD → Vec F S4096x2048 .f32)

/-! ## The cells -/

abbrev barCell (c : Dev nD) : GSem nD τ sig := ((c : Thread nD τ), .reg bar)
abbrev sendCell (c : Dev nD) (i : Fin 7) : GSem nD τ sig := ((c : Thread nD τ), .dma (sendSem (blk i)))
abbrev recvCell (c : Dev nD) (i : Fin 7) : GSem nD τ sig := ((c : Thread nD τ), .dma (recvSem (src c i)))

theorem sendSem_inj : ∀ d d' : Fin 8, sendSem d = sendSem d' → d = d' := by decide +kernel
theorem recvSem_inj : ∀ d d' : Dev nD, recvSem d = recvSem d' → d = d' := by decide +kernel
theorem send_ne_recv : ∀ (d : Fin 8) (s : Dev nD), sendSem d ≠ recvSem s := by decide +kernel
theorem slab_ne_recv : ∀ (p : Fin 2) (s : Dev nD), slabSem p ≠ recvSem s := by decide +kernel
theorem blk_inj {i j : Fin 7} (h : blk i = blk j) : i = j := by
  have := congrArg Fin.val h; exact Fin.ext (by simpa using this)

theorem dev_of_cell {c c' : Dev nD} {a b : SemLoc sig} (h : (((c : Thread nD τ), a) : GSem nD τ sig) = ((c' : Thread nD τ), b)) : c = c' :=
  congrArg (fun g : GSem nD τ sig => g.1.1) h
theorem barCell_inj {c c' : Dev nD} (h : barCell c = barCell c') : c = c' := dev_of_cell h
theorem sendCell_inj {c c' : Dev nD} {i i' : Fin 7} (h : sendCell c i = sendCell c' i') : c = c' ∧ i = i' := by
  refine ⟨dev_of_cell h, blk_inj (sendSem_inj _ _ ?_)⟩
  have h' := congrArg Prod.snd h; exact SemLoc.dma.inj h'
theorem recvCell_inj {c c' : Dev nD} {i i' : Fin 7} (h : recvCell c i = recvCell c' i') : c = c' ∧ i = i' := by
  obtain rfl := dev_of_cell h
  refine ⟨rfl, src_inj c (recvSem_inj _ _ ?_)⟩
  have h' := congrArg Prod.snd h; exact SemLoc.dma.inj h'
theorem send_ne_bar (c c' : Dev nD) (i : Fin 7) : sendCell c i ≠ barCell c' := fun h => by cases congrArg Prod.snd h
theorem recv_ne_bar (c c' : Dev nD) (i : Fin 7) : recvCell c i ≠ barCell c' := fun h => by cases congrArg Prod.snd h
theorem recv_ne_send (c c' : Dev nD) (i i' : Fin 7) : recvCell c i ≠ sendCell c' i' := fun h =>
  send_ne_recv _ _ (SemLoc.dma.inj (congrArg Prod.snd h)).symm

/-- The bytes of one block, as a copy's semaphore counts them. -/
abbrev N : ℕ := (ySlot 0).view.dmaCredit
theorem N_pos : 0 < N := View.dmaCredit_pos _ (by decide)

/-! ## The schedule -/

/-- What duty `i` of device `c`'s barrier cell hands over: the slot of device `src c i` that `c` fills. -/
def barPay (c : Dev nD) (i : Fin 7) : sProp 𝕄 :=
  iprop(∃ f : Buf (Elt F) ((src c i : Thread nD τ).loc cc0_scratch3), ((src c i : Thread nD τ).loc cc0_scratch3) ↦[slotSet c]{fullShare} f)
/-- What a send hands back: the slot sent from. -/
def sendPay (c : Dev nD) (i : Fin 7) : sProp 𝕄 := ((c : Thread nD τ).loc cc0_scratch2) ↦[slotSet (blk i)]{fullShare} yA X W c
/-- What a receipt hands over: the slot filled. -/
def recvPay (c : Dev nD) (i : Fin 7) : sProp 𝕄 := ((c : Thread nD τ).loc cc0_scratch3) ↦[slotSet (src c i)]{fullShare} rbA X W c

def IsBar (g : GSem nD τ sig) : Prop := ∃ c : Dev nD, g = barCell c
def IsSend (g : GSem nD τ sig) : Prop := ∃ p : Dev nD × Fin 7, g = sendCell p.1 p.2
def IsRecv (g : GSem nD τ sig) : Prop := ∃ p : Dev nD × Fin 7, g = recvCell p.1 p.2

theorem not_bar_send (c : Dev nD) (i : Fin 7) : ¬ IsBar (sendCell c i) := fun ⟨c', h⟩ => send_ne_bar c c' i h
theorem not_bar_recv (c : Dev nD) (i : Fin 7) : ¬ IsBar (recvCell c i) := fun ⟨c', h⟩ => recv_ne_bar c c' i h
theorem not_send_recv (c : Dev nD) (i : Fin 7) : ¬ IsSend (recvCell c i) := fun ⟨p, h⟩ => recv_ne_send c p.1 i p.2 h

open scoped Classical in
/-- One round: a barrier cell has seven duties of one unit each; a send or receive cell one of a block's bytes. -/
def Rd : Rounds.Schedule (GSem nD τ sig) (Fin 7) 𝕄 where
  duties g r := if r = 0 ∧ IsBar g then Finset.univ else if r = 0 ∧ (IsSend g ∨ IsRecv g) then {0} else ∅
  unitless _ := False
  amount g _ _ := if IsBar g then 1 else N
  payload g _ d :=
    if h : IsBar g then barPay h.choose d
    else if h : IsSend g then sendPay X W h.choose.1 h.choose.2
    else if h : IsRecv g then recvPay X W h.choose.1 h.choose.2
    else iprop(emp)
  amount_pos g _ _ _ := by
    by_cases h : IsBar g
    · rw [if_pos h]; exact Nat.one_pos
    · rw [if_neg h]; exact N_pos

instance barPay_storable (c : Dev nD) (i : Fin 7) : BI.Storable (upEmb : UEmb _ 𝕄) (barPay (F := F) c i) := by unfold barPay; infer_instance
instance sendPay_storable (c : Dev nD) (i : Fin 7) : BI.Storable (upEmb : UEmb _ 𝕄) (sendPay X W c i) := by unfold sendPay; infer_instance
instance recvPay_storable (c : Dev nD) (i : Fin 7) : BI.Storable (upEmb : UEmb _ 𝕄) (recvPay X W c i) := by unfold recvPay; infer_instance
open scoped Classical in
instance Rd_payload_storable (g : GSem nD τ sig) (r : ℕ) (d : Fin 7) : BI.Storable (upEmb : UEmb _ 𝕄) ((Rd X W).payload g r d) := by
  show BI.Storable upEmb (if h : IsBar g then barPay h.choose d else if h : IsSend g then sendPay X W h.choose.1 h.choose.2
    else if h : IsRecv g then recvPay X W h.choose.1 h.choose.2 else iprop(emp))
  (repeat' split) <;> infer_instance

theorem duties_bar (c : Dev nD) : (Rd X W).duties (barCell c) 0 = Finset.univ := by dsimp only [Rd]; exact if_pos ⟨rfl, c, rfl⟩
theorem duties_send (c : Dev nD) (i : Fin 7) : (Rd X W).duties (sendCell c i) 0 = {0} := by
  dsimp only [Rd]; rw [if_neg (fun h => not_bar_send c i h.2)]; exact if_pos ⟨rfl, .inl ⟨(c, i), rfl⟩⟩
theorem duties_recv (c : Dev nD) (i : Fin 7) : (Rd X W).duties (recvCell c i) 0 = {0} := by
  dsimp only [Rd]; rw [if_neg (fun h => not_bar_recv c i h.2)]; exact if_pos ⟨rfl, .inr ⟨(c, i), rfl⟩⟩
theorem duties_later (g : GSem nD τ sig) : ∀ r, 1 ≤ r → (Rd X W).duties g r = ∅ :=
  fun r hr => by dsimp only [Rd]; rw [if_neg fun h => by omega, if_neg fun h => by omega]

theorem amount_bar (c : Dev nD) (d : Fin 7) : (Rd X W).amount (barCell c) 0 d = 1 := by dsimp only [Rd]; exact if_pos ⟨c, rfl⟩
theorem amount_send (c : Dev nD) (i d : Fin 7) : (Rd X W).amount (sendCell c i) 0 d = N := by dsimp only [Rd]; exact if_neg (not_bar_send c i)
theorem amount_recv (c : Dev nD) (i d : Fin 7) : (Rd X W).amount (recvCell c i) 0 d = N := by dsimp only [Rd]; exact if_neg (not_bar_recv c i)

theorem expect_bar (c : Dev nD) : (Rd X W).expect (barCell c) 0 = 7 := by
  unfold Schedule.expect Schedule.amountOf
  rw [duties_bar, Finset.sum_congr rfl fun d _ => amount_bar X W c d, Finset.sum_const, Finset.card_univ, Fintype.card_fin, smul_eq_mul]
theorem expect_send (c : Dev nD) (i : Fin 7) : (Rd X W).expect (sendCell c i) 0 = N := by
  unfold Schedule.expect Schedule.amountOf; rw [duties_send, Finset.sum_singleton, amount_send]
theorem expect_recv (c : Dev nD) (i : Fin 7) : (Rd X W).expect (recvCell c i) 0 = N := by
  unfold Schedule.expect Schedule.amountOf; rw [duties_recv, Finset.sum_singleton, amount_recv]

theorem payload_bar (c : Dev nD) (d : Fin 7) : (Rd X W).payload (barCell c) 0 d = barPay c d := by
  have h : IsBar (barCell c) := ⟨c, rfl⟩
  dsimp only [Rd]; rw [dif_pos h, ← barCell_inj h.choose_spec]
theorem payload_send (c : Dev nD) (i d : Fin 7) : (Rd X W).payload (sendCell c i) 0 d = sendPay X W c i := by
  have h : IsSend (sendCell c i) := ⟨(c, i), rfl⟩
  have h' := sendCell_inj h.choose_spec
  dsimp only [Rd]; rw [dif_neg (not_bar_send c i), dif_pos h, ← h'.1, ← h'.2]
theorem payload_recv (c : Dev nD) (i d : Fin 7) : (Rd X W).payload (recvCell c i) 0 d = recvPay X W c i := by
  have h : IsRecv (recvCell c i) := ⟨(c, i), rfl⟩
  have h' := recvCell_inj h.choose_spec
  dsimp only [Rd]; rw [dif_neg (not_bar_recv c i), dif_neg (not_send_recv c i), dif_pos h, ← h'.1, ← h'.2]

/-- A round's payloads, none taken before. -/
theorem rest_bar (c : Dev nD) : bigSep ((Rd X W).duties (barCell c) 0 \ ∅) (fun d => (Rd X W).payload (barCell c) 0 d) = bigSep Finset.univ (barPay (F := F) c) := by
  rw [Finset.sdiff_empty, duties_bar]; exact bigSep_congr fun d _ => payload_bar X W c d
theorem rest_send (c : Dev nD) (i : Fin 7) :
    bigSep ((Rd X W).duties (sendCell c i) 0 \ ∅) (fun d => (Rd X W).payload (sendCell c i) 0 d) = sendPay X W c i := by
  rw [Finset.sdiff_empty, duties_send, bigSep_singleton, payload_send]
theorem rest_recv (c : Dev nD) (i : Fin 7) :
    bigSep ((Rd X W).duties (recvCell c i) 0 \ ∅) (fun d => (Rd X W).payload (recvCell c i) 0 d) = recvPay X W c i := by
  rw [Finset.sdiff_empty, duties_recv, bigSep_singleton, payload_recv]

/-! ## What is owed -/

/-- What is left of seven amounts from the `n`-th on. -/
def tail (f : Fin 7 → CellTallies nD τ sig Unit) (n : ℕ) : CellTallies nD τ sig Unit := ∑ i with n ≤ i.val, f i

theorem tail_step (f : Fin 7 → CellTallies nD τ sig Unit) (i : Fin 7) : tail f i.val = tail f (i.val + 1) + f i := by
  unfold tail
  rw [show (Finset.univ.filter fun j : Fin 7 => i.val ≤ j.val) = insert i (Finset.univ.filter fun j : Fin 7 => i.val + 1 ≤ j.val) from by
    ext j; simp only [Finset.mem_filter, Finset.mem_univ, true_and, Finset.mem_insert, Fin.ext_iff]; omega]
  rw [Finset.sum_insert (by simp), add_comm]
theorem tail_end (f : Fin 7 → CellTallies nD τ sig Unit) : tail f 7 = 0 :=
  Finset.sum_eq_zero fun i hi => absurd (Finset.mem_filter.mp hi).2 (by have := i.isLt; omega)
theorem tail_all (f : Fin 7 → CellTallies nD τ sig Unit) : tail f 0 = ∑ i, f i :=
  Finset.sum_congr (Finset.filter_true_of_mem fun _ _ => Nat.zero_le _) fun _ _ => rfl

/-- What device `c`'s send of step `i` pays. -/
abbrev payRecv (c : Dev nD) (i : Fin 7) : CellTallies nD τ sig Unit := tallyAt (recvCell (nbr c i) i) () N
/-- What device `c`'s signal of step `i` pays. -/
abbrev payBar (c : Dev nD) (i : Fin 7) : CellTallies nD τ sig Unit := tallyAt (barCell (nbr c i)) () 1

def OR (c : Dev nD) (n : ℕ) : CellTallies nD τ sig Unit := tail (payRecv c) n
/-- What device `c` owes at launch. -/
def O₀ (c : Dev nD) : CellTallies nD τ sig Unit := OR c 0 + tail (payBar c) 0

def L (g : GSem nD τ sig) : Finset Unit := if g.1.2 = .tc then {()} else ∅
open scoped Classical in
/-- Barrier cells at 1, receive cells at 2, everything else at 0. -/
def lv (g : GSem nD τ sig) (_ : Unit) : ℕ := if IsBar g then 1 else if IsRecv g then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; exact if_pos ⟨c, rfl⟩
theorem lv_recv (c : Dev nD) (i : Fin 7) : lv (recvCell c i) () = 2 := by unfold lv; rw [if_neg (not_bar_recv c i)]; exact if_pos ⟨(c, i), rfl⟩
theorem lv_low (c : Dev nD) (q : DmaSem sig) (hq : ∀ s, q ≠ recvSem s) : lv ((c : Thread nD τ), .dma q) () = 0 := by
  unfold lv
  rw [if_neg (fun ⟨c', h⟩ => by cases congrArg Prod.snd h)]
  exact if_neg fun ⟨p, h⟩ => hq _ (SemLoc.dma.inj (congrArg Prod.snd h))

/-- Everything owed is owed to cells of level above `k`. -/
def Above (k : ℕ) (O : CellTallies nD τ sig Unit) : Prop := ∀ g u, 0 < O g u → u ∈ L g ∧ k < lv g u

theorem above_zero (k : ℕ) : Above k 0 := fun g u h => absurd h (Nat.lt_irrefl 0)
theorem above_add {k : ℕ} {O O' : CellTallies nD τ sig Unit} (h : Above k O) (h' : Above k O') : Above k (O + O') := fun g u hg => by
  rw [Pi.add_apply, Finsupp.add_apply] at hg
  rcases Nat.eq_zero_or_pos (O g u) with h0 | h0
  · exact h' g u (by omega)
  · exact h g u h0
theorem above_tallyAt {k n : ℕ} {c : Dev nD} {sm : SemLoc sig} (h : k < lv ((c : Thread nD τ), sm) ()) :
    Above k (tallyAt ((c : Thread nD τ), sm) () n) := fun g u hg => by
  rw [tallyAt_apply] at hg
  by_cases hg' : g = ((c : Thread nD τ), sm) ∧ u = ()
  · rw [hg'.1, L_tc]; exact ⟨Finset.mem_singleton_self _, h⟩
  · rw [if_neg hg'] at hg; exact absurd hg (Nat.lt_irrefl 0)
theorem above_tail {k : ℕ} {f : Fin 7 → CellTallies nD τ sig Unit} (h : ∀ i, Above k (f i)) (n : ℕ) : Above k (tail f n) :=
  Finset.sum_induction f (Above k) (fun _ _ => above_add) (above_zero k) fun i _ => h i

theorem above_OR (c : Dev nD) (n : ℕ) : Above 1 (OR c n) := above_tail (fun i => above_tallyAt (by rw [lv_recv]; decide)) n
theorem above_mono {k l : ℕ} (h : k ≤ l) {O : CellTallies nD τ sig Unit} (hO : Above l O) : Above k O := fun g u hg =>
  ⟨(hO g u hg).1, lt_of_le_of_lt h (hO g u hg).2⟩
theorem above_O₀ (c : Dev nD) : Above 0 (O₀ c) :=
  above_add (above_mono (Nat.zero_le _) (above_OR c 0)) (above_tail (fun i => above_tallyAt (by rw [lv_bar]; decide)) 0)

/-- A wait on a cell below everything owed. -/
theorem mayWait (c : Dev nD) (sm : SemLoc sig) (k : ℕ) (hk : lv ((c : Thread nD τ), sm) () ≤ k) {O : CellTallies nD τ sig Unit} (hO : Above k O) :
    (levAts L lv : sProp 𝕄) ⊢ MayWait (c : Thread nD τ) sm () O :=
  MayOwe.of_cut (L := L) (lev := lv) k (fun p hp => by rw [Finset.mem_singleton.mp hp, L_tc]; exact Finset.mem_singleton_self _)
    (fun g u hg => (hO g u hg).1) (fun p hp => by rw [Finset.mem_singleton.mp hp]; exact hk) (fun g u hg => (hO g u hg).2)

end Cert.KernelIdealProof
-- ==== Proof.KernelIdeal.Body.lean ====
/-
# The steps of the body

Each step of the body is proved once, for any device and any step number. `Owes c O` says that the device owes `O`.
-/
module

public import proofs.«01_k».proof.Proof.KernelIdeal.Cells
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (W : Dev nD → Vec F S4096x2048 .f32)

abbrev 𝒱₀ : Variants := Variants.none

/-- The program `p` on device `c`, run from here, ends as `Q` says. -/
abbrev Wp (c : Dev nD) {α : Type} (p : Body F α) (Q : α → sProp 𝕄) : sProp 𝕄 :=
  wp frame (wpE (defs₀ (F := F)) 𝒱₀ (c : Thread nD τ) none) Set.univ p Q

/-- A step, then the rest. -/
theorem wp_then (c : Dev nD) {α β : Type} {p : Body F α} {k : α → Body F β} {P : sProp 𝕄} {R : α → sProp 𝕄} {Q : β → sProp 𝕄}
    (h : P ⊢ Wp c p R) : iprop(P ∗ (∀ a, R a -∗ Wp c (k a) Q)) ⊢ Wp c (p >>= k) Q := by
  unfold Wp; rw [wp_bind]
  iintro ⟨HP, HK⟩
  ihave H := h $$ HP
  iapply (wp_wand frame _ _) $$ H
  iexact HK

/-- A step whose result says nothing, then the rest. -/
theorem wp_then_unit (c : Dev nD) {β : Type} {p : Body F PUnit} {k : PUnit → Body F β} {P R : sProp 𝕄} {Q : β → sProp 𝕄}
    (h : P ⊢ Wp c p fun _ => R) : iprop(P ∗ (R -∗ Wp c (k ⟨⟩) Q)) ⊢ Wp c (p >>= k) Q := by
  refine BIBase.Entails.trans ?_ (wp_then c h)
  iintro ⟨HP, HK⟩
  isplitl [HP]; · iexact HP
  iintro %a H
  iapply HK; iexact H

/-- A conjunction over seven. -/
theorem bigSep_seven (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

/-- Seven steps: each consumes its `A`, leaves its `B` and takes the state `C` one further. -/
theorem wp_seven (c : Dev nD) (f : Fin 7 → Body F PUnit) (A B : Fin 7 → sProp 𝕄) (C : ℕ → sProp 𝕄)
    (h : ∀ i, iprop(A i ∗ C i.val) ⊢ Wp c (f i) fun _ => iprop(B i ∗ C (i.val + 1))) :
    iprop(bigSep Finset.univ A ∗ C 0) ⊢ Wp c (seven f) fun _ => iprop(bigSep Finset.univ B ∗ C 7) := by
  have h0 : iprop(A 0 ∗ C 0) ⊢ Wp c (f 0) fun _ => iprop(B 0 ∗ C 1) := h 0
  have h1 : iprop(A 1 ∗ C 1) ⊢ Wp c (f 1) fun _ => iprop(B 1 ∗ C 2) := h 1
  have h2 : iprop(A 2 ∗ C 2) ⊢ Wp c (f 2) fun _ => iprop(B 2 ∗ C 3) := h 2
  have h3 : iprop(A 3 ∗ C 3) ⊢ Wp c (f 3) fun _ => iprop(B 3 ∗ C 4) := h 3
  have h4 : iprop(A 4 ∗ C 4) ⊢ Wp c (f 4) fun _ => iprop(B 4 ∗ C 5) := h 4
  have h5 : iprop(A 5 ∗ C 5) ⊢ Wp c (f 5) fun _ => iprop(B 5 ∗ C 6) := h 5
  have h6 : iprop(A 6 ∗ C 6) ⊢ Wp c (f 6) fun _ => iprop(B 6 ∗ C 7) := h 6
  rw [bigSep_seven, bigSep_seven]
  unfold seven
  iintro ⟨⟨A0, A1, A2, A3, A4, A5, A6⟩, C0⟩
  iapply (wp_then_unit c h0)
  isplitl [A0 C0]
  · isplitl [A0]; · iexact A0
    iexact C0
  iintro ⟨B0, C1⟩
  iapply (wp_then_unit c h1)
  isplitl [A1 C1]
  · isplitl [A1]; · iexact A1
    iexact C1
  iintro ⟨B1, C2⟩
  iapply (wp_then_unit c h2)
  isplitl [A2 C2]
  · isplitl [A2]; · iexact A2
    iexact C2
  iintro ⟨B2, C3⟩
  iapply (wp_then_unit c h3)
  isplitl [A3 C3]
  · isplitl [A3]; · iexact A3
    iexact C3
  iintro ⟨B3, C4⟩
  iapply (wp_then_unit c h4)
  isplitl [A4 C4]
  · isplitl [A4]; · iexact A4
    iexact C4
  iintro ⟨B4, C5⟩
  iapply (wp_then_unit c h5)
  isplitl [A5 C5]
  · isplitl [A5]; · iexact A5
    iexact C5
  iintro ⟨B5, C6⟩
  ihave H := h6 $$ [A6 C6]
  · isplitl [A6]; · iexact A6
    iexact C6
  iapply (wp_wand frame _ _) $$ H
  iintro %a ⟨B6, C7⟩
  isplitr [C7]
  · isplitl [B0]; · iexact B0
    isplitl [B1]; · iexact B1
    isplitl [B2]; · iexact B2
    isplitl [B3]; · iexact B3
    isplitl [B4]; · iexact B4
    isplitl [B5] <;> iassumption
  iexact C7

/-! ## What is held -/

/-- The device owes `O`. -/
def Owes (c : Dev nD) (O : CellTallies nD τ sig Unit) : sProp 𝕄 := iprop(∃ Ws : Waits sig Unit, owes (c : Thread nD τ) O Ws)
/-- Cell `g` runs the schedule. -/
def Inv (g : GSem nD τ sig) : sProp 𝕄 := iprop(∃ κ : ℕ, cellInv ER (Rd X W) κ g)
instance Inv_persistent (g : GSem nD τ sig) : BI.Persistent (Inv X W g) := by unfold Inv; infer_instance

/-- The share of the weights a slab's copies read through. -/
def half (p : Fin 2) : PosShare TreeShare := if p = 0 then fullShare.left else fullShare.right
/-- The weights, at a slab's share. -/
def wHalf (c : Dev nD) (p : Fin 2) : sProp 𝕄 := ((c : Thread nD τ).loc main_arg1) ↦{half p} W c
/-- Slab `p` with no copy under way. -/
def Idle (c : Dev nD) (p : Fin 2) : sProp 𝕄 :=
  iprop((∃ f : Buf (Elt F) ((c : Thread nD τ).loc cc0_scratch1), ((c : Thread nD τ).loc cc0_scratch1) ↦[slabSet p]{fullShare} f)
    ∗ semVal ((c : Thread nD τ), .dma (slabSem p)) 0 ∗ wHalf W c p)
/-- The bytes of one slab. -/
abbrev NS : ℕ := (wSlab 0).view.dmaCredit
/-- Slab of block `d` with its copy under way. -/
def Busy (c : Dev nD) (d : Fin 8) : sProp 𝕄 :=
  iprop(Transfers.Flight EC (c : Thread nD τ) (.dma (slabSem (par d))) () NS
      iprop((((c : Thread nD τ).loc cc0_scratch1) ↦[slabSet (par d)]{fullShare} wsA W c (tgt c d))
        ∗ (((c : Thread nD τ).loc main_arg1) ↦[(wCol c d).view.set]{half (par d)} W c))
    ∗ (((c : Thread nD τ).loc main_arg1) ↦[Finset.univ \ (wCol c d).view.set]{half (par d)} W c))
/-- Slab of block `d` holding its weights. -/
def Full (c : Dev nD) (d : Fin 8) : sProp 𝕄 :=
  iprop((((c : Thread nD τ).loc cc0_scratch1) ↦[slabSet (par d)]{fullShare} wsA W c (tgt c d))
    ∗ semVal ((c : Thread nD τ), .dma (slabSem (par d))) 0 ∗ wHalf W c (par d))

theorem Full_idle (c : Dev nD) (d : Fin 8) : Full W c d ⊢ Idle W c (par d) := by
  unfold Full Idle
  iintro ⟨H, Hs, Hw⟩
  isplitl [H]; · iexists _; iexact H
  isplitl [Hs] <;> iassumption

/-! ## The copies of the weights -/

theorem wp_fetchSlab (c : Dev nD) (d : Fin 8) : Idle W c (par d) ⊢ Wp c (fetchSlab c d) fun _ => Busy W c d := by
  unfold Idle Busy wHalf fetchSlab
  iintro ⟨⟨%f, Hd⟩, Hv, Hw⟩
  ihave Hw' := (pointsTo_split_subset (Finset.subset_univ (wCol c d).view.set)).1 $$ Hw
  icases Hw' with ⟨Hw, Hr⟩
  iapply (Transfers.wp_dmaLocal EC 𝒱₀ (c : Thread nD τ) none (src := wCol c d) (dst := wSlab (par d)) (Sd := slabSet (par d)) (fd := f) () NS rfl
    (View.dmaCredit_pos _ (by decide)) (by rw [wSlab_set])) $$ [Hd Hv Hw]
  · isplitl [Hw]; · iexact Hw
    isplitl [Hd] <;> iassumption
  iintro HF
  rw [wp_ret]; imodintro
  isplitl [HF]
  · iapply (Transfers.Flight_mono EC (c : Thread nD τ) (sep_mono_left (Entails.of_eq (pointsTo_congr (ℓ := (c : Thread nD τ).loc cc0_scratch1) (slab_landed W c d f)))))
    iexact HF
  iexact Hr

theorem wp_awaitSlab (c : Dev nD) (d : Fin 8) {O : CellTallies nD τ sig Unit} (hO : Above 0 O) :
    iprop(Busy W c d ∗ Owes c O ∗ levAts L lv) ⊢ Wp c (awaitSlab c d) fun _ => iprop(Full W c d ∗ Owes c O) := by
  unfold Busy Full wHalf Owes awaitSlab
  iintro ⟨⟨HF, Hr⟩, ⟨%Ws, HO⟩, #Hlev⟩
  iapply (Transfers.wp_waitLocalO EC 𝒱₀ (c : Thread nD τ) none (dstw := wSlab (par d)) (N := NS) () rfl) $$ [HF HO]
  · isplitl [HF]; · iexact HF
    isplitl [HO]; · iexact HO
    iapply (mayWait c _ 0 (by rw [lv_low c _ (slab_ne_recv (par d))]) hO); iexact Hlev
  iintro ⟨⟨Hd, Hw⟩, Hv, HO⟩
  rw [wp_ret]; imodintro
  isplitr [HO]
  · isplitl [Hd]; · iexact Hd
    isplitl [Hv]; · iexact Hv
    iapply (pointsTo_split_subset (Finset.subset_univ (wCol c d).view.set)).2
    isplitl [Hw] <;> iassumption
  iexists _; iexact HO

theorem wp_readSlab (c : Dev nD) (d : Fin 8) : Full W c d ⊢ Wp c (readSlab (F := F) d) fun v => iprop(⌜v = wBlk W c (tgt c d)⌝ ∗ Full W c d) := by
  unfold Full readSlab
  iintro ⟨H, Hs, Hw⟩
  iapply (wp_load_rect 𝒱₀ (c : Thread nD τ) none Set.univ (m := wsM) (r := slabRect (par d)) (by rw [ws_acc])) $$ H
  iintro H
  rw [wp_ret]; imodintro
  isplitr; · ipureintro; exact read_slab W c (tgt c d) (par d)
  isplitl [H]; · iexact H
  isplitl [Hs] <;> iassumption

theorem wp_readX (c : Dev nD) (f : Vec F S512x4096 .bf16) :
    iprop(((c : Thread nD τ).loc cc0_scratch0) ↦{fullShare} f)
      ⊢ Wp c (readX (F := F)) fun v => iprop(⌜v = f⌝ ∗ (((c : Thread nD τ).loc cc0_scratch0) ↦{fullShare} f) : sProp 𝕄) := by
  unfold readX
  iintro H
  iapply (wp_load 𝒱₀ (c : Thread nD τ) none Set.univ (m := xbM) (Finset.subset_univ _)) $$ H
  iintro H
  rw [wp_ret]; imodintro
  isplitr; · ipureintro; exact read_xb f
  iexact H

theorem wp_roundX (c : Dev nD) :
    iprop((((c : Thread nD τ).loc cc0_stg0_0) ↦{fullShare} X c)
        ∗ ∃ f : Buf (Elt F) ((c : Thread nD τ).loc cc0_scratch0), ((c : Thread nD τ).loc cc0_scratch0) ↦{fullShare} f)
      ⊢ Wp c (roundX (F := F)) fun _ => iprop((((c : Thread nD τ).loc cc0_stg0_0) ↦{fullShare} X c)
        ∗ (((c : Thread nD τ).loc cc0_scratch0) ↦{fullShare} xbA X c) : sProp 𝕄) := by
  unfold roundX
  iintro ⟨Hx, %f, Hb⟩
  iapply (wp_load 𝒱₀ (c : Thread nD τ) none Set.univ (m := xM) (Finset.subset_univ _)) $$ Hx
  iintro Hx
  rw [read_x (X c)]
  iapply (wp_then c (wp_readX c f))
  isplitl [Hb]; · iexact Hb
  iintro %v ⟨-, Hb⟩
  iapply (wp_store 𝒱₀ (c : Thread nD τ) none Set.univ (m := xbM) (r := Rect.unit (s := S512x4096) ![0, 0] S512x4096.size inb_S512x4096_S512x4096_0_0) (Mk := Finset.univ) (Finset.subset_univ _)) $$ Hb
  iintro Hb
  rw [write_xb, wp_ret]; imodintro
  isplitl [Hx]; · iexact Hx
  iexact Hb

/-! ## Loads and stores of one block -/

/-- Row block `s` of the result stored, its offset spelled as the program does. -/
theorem wp_storeRow (c s : Dev nD) (off : Fin 2 → Nat) (hoff : off = ![512 * s.val, 0]) (hin : ∀ a, off a + S512x256.size a ≤ S4096x256.size a)
    (v : Vec F S512x256 .f32) (hv : v = rowV X W c s)
    {hl : oM.view.LoadsAt (Rect.unit (s := S4096x256) off S512x256.size hin).toLoadRect}
    {hx : (oM.access (Rect.unit (s := S4096x256) off S512x256.size hin)).Stores Finset.univ}
    {hm : (Finset.univ : Finset (Rect.unit (s := S4096x256) off S512x256.size hin).shape.Idx) = Finset.univ
      ∨ ∀ a, (Rect.unit (s := S4096x256) off S512x256.size hin).stride a = 1} :
    iprop(∃ f : Buf (Elt F) ((c : Thread nD τ).loc cc0_stg1_0), ((c : Thread nD τ).loc cc0_stg1_0) ↦[rowSet s]{fullShare} f)
      ⊢ Wp c (Prog.lift (.load oM (Rect.unit (s := S4096x256) off S512x256.size hin).toLoadRect hl) >>= fun _ =>
          Prog.lift (.store oM (Rect.unit (s := S4096x256) off S512x256.size hin) v Finset.univ hx hm))
        fun _ => iprop(((c : Thread nD τ).loc cc0_stg1_0) ↦[rowSet s]{fullShare} outA X W c : sProp 𝕄) := by
  subst hoff hv
  iintro ⟨%f, H⟩
  iapply (wp_load_rect 𝒱₀ (c : Thread nD τ) none Set.univ (m := oM) (r := rowRect s) (by rw [o_acc])) $$ H
  iintro H
  iapply (wp_store 𝒱₀ (c : Thread nD τ) none Set.univ (m := oM) (r := rowRect s) (Mk := Finset.univ) (by rw [View.setOn_univ, o_acc])) $$ H
  iintro H
  rw [wp_ret]; imodintro
  iapply (Entails.of_eq (pointsTo_congr (ℓ := (c : Thread nD τ).loc cc0_stg1_0) (row_landed X W c s f)))
  iexact H

/-- The slot of device `s` read, its offset spelled as the program does. -/
theorem wp_readSlot (c s : Dev nD) (off : Fin 3 → Nat) (hoff : off = ![s.val, 0, 0]) (hin : ∀ a, off a + S1x512x256.size a ≤ S8x512x256.size a)
    {hl : rbM.view.LoadsAt (Rect.unit (s := S8x512x256) off S1x512x256.size hin).toLoadRect} :
    iprop(((c : Thread nD τ).loc cc0_scratch3) ↦[slotSet s]{fullShare} rbA X W c)
      ⊢ Wp c (Prog.lift (.load rbM (Rect.unit (s := S8x512x256) off S1x512x256.size hin).toLoadRect hl))
        fun v => iprop(⌜v = sentV X W s c⌝ ∗ (((c : Thread nD τ).loc cc0_scratch3) ↦[slotSet s]{fullShare} rbA X W c) : sProp 𝕄) := by
  subst hoff
  iintro H
  iapply (wp_load_rect 𝒱₀ (c : Thread nD τ) none Set.univ (m := rbM) (r := slotRect s) (by rw [rb_acc])) $$ H
  iintro H
  rw [wp_ret]; imodintro
  isplitr; · ipureintro; exact read_rb X W c s
  iexact H

/-- A block stored to the slot it is sent from. -/
theorem wp_putBlock (c : Dev nD) (i : Fin 7) :
    iprop(∃ f : Buf (Elt F) ((c : Thread nD τ).loc cc0_scratch2), ((c : Thread nD τ).loc cc0_scratch2) ↦[slotSet (blk i)]{fullShare} f)
      ⊢ Wp c (putBlock i (sentV X W c (nbr c i)))
        fun _ => iprop(((c : Thread nD τ).loc cc0_scratch2) ↦[slotSet (blk i)]{fullShare} yA X W c : sProp 𝕄) := by
  unfold putBlock
  iintro ⟨%f, H⟩
  iapply (wp_load_rect 𝒱₀ (c : Thread nD τ) none Set.univ (m := yM) (r := slotRect (blk i)) (by rw [y_acc])) $$ H
  iintro H
  iapply (wp_store 𝒱₀ (c : Thread nD τ) none Set.univ (m := yM) (r := slotRect (blk i)) (Mk := Finset.univ) (by rw [View.setOn_univ, y_acc])) $$ H
  iintro H
  rw [wp_ret]; imodintro
  iapply (Entails.of_eq (pointsTo_congr (ℓ := (c : Thread nD τ).loc cc0_scratch2) (put_landed X W c i f)))
  iexact H

/-! ## The semaphore steps -/

/-- The signal of step `i` hands over the slot its receiver fills. -/
theorem wp_signalStep (c : Dev nD) (i : Fin 7) :
    iprop((Inv X W (barCell (nbr c i)) ∗ dutyTok ER (barCell (nbr c i)) 0 i ∗ reached ER (barCell (nbr c i)) 0
        ∗ ∃ f : Buf (Elt F) ((c : Thread nD τ).loc cc0_scratch3), ((c : Thread nD τ).loc cc0_scratch3) ↦[slotSet (nbr c i)]{fullShare} f)
      ∗ Owes c (OR c 0 + tail (payBar c) i.val))
      ⊢ Wp c (signalStep c i) fun _ => iprop(emp ∗ Owes c (OR c 0 + tail (payBar c) (i.val + 1))) := by
  unfold signalStep semSignalWord Inv Owes
  rw [sigDev_eq, tail_step, ← add_assoc]
  iintro ⟨⟨⟨%κ, #HI⟩, Htok, #Hr, Hslot⟩, %Ws, HO⟩
  iapply (Rounds.wp_signal 𝒱₀ ER (Rd X W) (c : Thread nD τ) none (dst := (nbr c i : Thread nD τ)) (κ := κ) (d := i)
      (by rw [duties_bar]; exact Finset.mem_univ _) ((amount_bar X W (nbr c i) i).trans (by decide)) () (OR c 0 + tail (payBar c) (i.val + 1)) rfl)
    $$ [HO Htok Hslot]
  · isplitr; · iexact HI
    isplitl [HO]; · iexact HO
    isplitl [Htok]; · iexact Htok
    isplitl [Hslot]; · rw [payload_bar]; unfold barPay; rw [src_nbr]; iexact Hslot
    iexact Hr
  iintro HO
  rw [wp_ret]; imodintro
  isplitr; · iempintro
  iexists _; iexact HO

/-- All seven signals awaited: the slots of the other devices that this one fills. -/
theorem wp_awaitAll (c : Dev nD) :
    iprop(Inv X W (barCell c) ∗ cred (tallyAt (barCell c) () 7) ∗ atPos ER (barCell c) 0 ∅ 0 ∗ Owes c (OR c 0) ∗ levAts L lv)
      ⊢ Wp c (awaitAll (F := F)) fun _ => iprop(bigSep Finset.univ (barPay (F := F) c) ∗ semVal (barCell c) 0 ∗ Owes c (OR c 0)) := by
  unfold awaitAll semWaitWord Inv Owes
  iintro ⟨⟨%κ, #HI⟩, Hc, Hat, ⟨%Ws, HO⟩, #Hlev⟩
  iapply (Rounds.wp_wait_rest_token 𝒱₀ ER (Rd X W) (c : Thread nD τ) none (κ := κ)
      (wpE_semWait_eq 𝒱₀ (c : Thread nD τ) none Set.univ) (Set.mem_univ _) () (O := OR c 0) (W := Ws) (R := 0) (m := 0) (T := ∅)
      (by rw [expect_bar]; decide)) $$ [Hc HO Hat]
  · isplitr; · iexact HI
    isplitl [Hc]; · iexact Hc
    isplitl [HO]; · iexact HO
    isplitr; · iapply (mayWait c _ 1 (by rw [lv_bar]) (above_OR c 0)); iexact Hlev
    iexact Hat
  iintro ⟨HO, Hat, -, Hpay⟩
  ihave Hp := (Entails.of_eq (rest_bar X W c)) $$ Hpay
  imod (Rounds.cell_close ER (Rd X W) (Set.mem_univ κ) (fun h => h) (R := 0 + 1) (duties_later X W (barCell c))) $$ [Hat] with Hz
  · isplitr; · iexact HI
    iexact Hat
  rw [wp_ret]; imodintro
  isplitl [Hp]; · iexact Hp
  isplitl [Hz]; · iexact Hz
  iexists _; iexact HO

/-- A wait for the one duty of a cell of this device, nothing being owed. -/
theorem wp_awaitOne (c : Dev nD) (q' q : DmaSem sig) (hq : q' = q) (P : sProp 𝕄) {s s' : Shape} {e e' : EltTy} {sp sp' : Space}
    {a : Memref sig .tc sp' s' e'} {b : Memref sig .tc sp s e} {ha : a.view.WordExact} {hb : b.view.WordExact} (hN : b.view.dmaCredit = N)
    (he : (Rd X W).expect ((c : Thread nD τ), .dma q) 0 = N)
    (hP : bigSep ((Rd X W).duties ((c : Thread nD τ), .dma q) 0 \ ∅) (fun d => (Rd X W).payload ((c : Thread nD τ), .dma q) 0 d) = P) :
    iprop(Inv X W ((c : Thread nD τ), .dma q) ∗ cred (tallyAt ((c : Thread nD τ), .dma q) () N) ∗ atPos ER ((c : Thread nD τ), .dma q) 0 ∅ 0 ∗ Owes c 0)
      ⊢ Wp c (Prog.lift (.waitDma2 q' a b ha hb)) fun _ => iprop(P ∗ semVal ((c : Thread nD τ), .dma q) 0 ∗ Owes c 0) := by
  subst hq hP
  unfold Inv Owes
  iintro ⟨⟨%κ, #HI⟩, Hc, Hat, %Ws, HO⟩
  iapply (Rounds.wp_wait_rest_token 𝒱₀ ER (Rd X W) (c : Thread nD τ) none (κ := κ)
      (wpE_waitDma2_eq 𝒱₀ (c : Thread nD τ) none Set.univ) (Set.mem_univ _) () (O := 0) (W := Ws) (R := 0) (m := 0) (T := ∅)
      (by rw [Nat.zero_add, he, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  imod (Rounds.cell_close ER (Rd X W) (Set.mem_univ κ) (fun h => h) (R := 0 + 1) (duties_later X W ((c : Thread nD τ), .dma q'))) $$ [Hat] with Hz
  · isplitr; · iexact HI
    iexact Hat
  rw [wp_ret]; imodintro
  isplitl [Hpay]; · iexact Hpay
  isplitl [Hz]; · iexact Hz
  iexists _; iexact HO

/-- The block landed pays the receiver's duty. -/
theorem recv_paid (c : Dev nD) (i : Fin 7) (fd : Vec F S8x512x256 .bf16) :
    ((rbSlot c).view.loc (nbr c i : Thread nD τ) ↦[(rbSlot c).view.set]{fullShare}
        ((rbSlot c).view.write (Elt F) fd ((ySlot (blk i)).view.read (Elt F) (yA X W c)) Finset.univ) : sProp 𝕄)
      ⊢ (Rd X W).payload (recvCell (nbr c i) i) 0 0 := by
  have h := send_landed X W c i fd
  generalize (rbSlot c).view.write (Elt F) fd ((ySlot (blk i)).view.read (Elt F) (yA X W c)) Finset.univ = g at h ⊢
  rw [payload_recv, rbSlot_set]; unfold recvPay; rw [src_nbr]
  exact Entails.of_eq (pointsTo_congr (ℓ := (nbr c i : Thread nD τ).loc cc0_scratch3) h)
/-- The slot sent from pays the sender's duty. -/
theorem send_paid (c : Dev nD) (i : Fin 7) :
    ((ySlot (blk i)).view.loc (c : Thread nD τ) ↦[(ySlot (blk i)).view.set]{fullShare} yA X W c : sProp 𝕄)
      ⊢ (Rd X W).payload (sendCell c i) 0 0 := by
  rw [payload_send, ySlot_set]; exact BI.Entails.refl _

theorem amount_rb (c : Dev nD) (q : DmaSem sig) : (rbSlot c).view.amount (.dma q) = N := rfl

/-- The send of step `i`, its receiver, slot and semaphore spelled as the program does. -/
theorem wp_sendTo (c : Dev nD) (i : Fin 7) (n : Dev nD) (hn : n = nbr c i) (rb : Memref sig .tc .vmem S512x256 .bf16) (hrb : rb = rbSlot c)
    (rs : DmaSem sig) (hrs : rs = recvSem (src (nbr c i) i))
    {hsc : (rb : Memref sig (Dev.tc n : Thread nD τ).2.kind .vmem S512x256 .bf16).view.ref.isScScratch = false}
    {hsrc : (ySlot (blk i)).view.WordExact} {hdst : rb.view.WordExact}
    {hsem : DmaTarget.Typed .vmem (.dma rs) (.remote (Dev.tc n : Thread nD τ) rb (.dma (sendSem (blk i))) hsc)} :
    iprop((Inv X W (sendCell c i) ∗ Inv X W (recvCell (nbr c i) i)
        ∗ dutyTok ER (sendCell c i) 0 0 ∗ reached ER (sendCell c i) 0
        ∗ dutyTok ER (recvCell (nbr c i) i) 0 0 ∗ reached ER (recvCell (nbr c i) i) 0
        ∗ ∃ f : Buf (Elt F) ((nbr c i : Thread nD τ).loc cc0_scratch3), ((nbr c i : Thread nD τ).loc cc0_scratch3) ↦[slotSet c]{fullShare} f)
      ∗ (((c : Thread nD τ).loc cc0_scratch2) ↦[slotSet (blk i)]{fullShare} yA X W c)
      ∗ Owes c (OR c i.val))
      ⊢ Wp c (Prog.lift (.enqueueDma (ySlot (blk i)) (.remote (Dev.tc n : Thread nD τ) rb (.dma (sendSem (blk i))) hsc) (.dma rs) hsrc hdst hsem))
        fun _ => iprop(cred (tallyAt (sendCell c i) () N) ∗ Owes c (OR c (i.val + 1))) := by
  subst hn hrb hrs
  unfold Inv Owes
  iintro ⟨⟨⟨%κ₁, #HI₁⟩, ⟨%κ₂, #HI₂⟩, Ht₁, #Hr₁, Ht₂, #Hr₂, %fd, Hd⟩, Hs, %Ws, HO⟩
  ihave Hs := (Entails.of_eq (show (((c : Thread nD τ).loc cc0_scratch2) ↦[slotSet (blk i)]{fullShare} yA X W c : sProp 𝕄)
    = ((ySlot (blk i)).view.loc (c : Thread nD τ) ↦[(ySlot (blk i)).view.set]{fullShare} yA X W c) from by rw [ySlot_set])) $$ Hs
  ihave Hd := (Entails.of_eq (show (((nbr c i : Thread nD τ).loc cc0_scratch3) ↦[slotSet c]{fullShare} fd : sProp 𝕄)
    = ((rbSlot c).view.loc (nbr c i : Thread nD τ) ↦[(rbSlot c).view.set]{fullShare} fd) from by rw [rbSlot_set])) $$ Hd
  iapply (Rounds.wp_send_pointsTo 𝒱₀ ER (Rd X W) (c : Thread nD τ) none (c' := (nbr c i : Thread nD τ)) (src := ySlot (blk i)) (dst := rbSlot c) (κ₁ := κ₁) (κ₂ := κ₂)
    (r₁ := 0) (r₂ := 0) (d₁ := 0) (d₂ := 0) (fd := fd)
    (by rw [duties_send]; exact Finset.mem_singleton_self _) (by rw [duties_recv]; exact Finset.mem_singleton_self _)
    () () N (amount_rb c _) (amount_send X W c i 0) (amount_recv X W (nbr c i) i 0) (OR c (i.val + 1)) (tail_step (payRecv c) i) (W := Ws)
    (send_paid X W c i) (recv_paid X W c i fd)) $$ [Hs Hd HO Ht₁ Ht₂]
  · isplitr; · iexact HI₁
    isplitr; · iexact HI₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  rw [wp_ret]; imodintro
  isplitl [Hc]; · iexact Hc
  iexists _; iexact HO

end Cert.KernelIdealProof
-- ==== Proof.KernelIdeal.Run.lean ====
/-
# The body on one device

The steps of `Body` composed: from what a device holds at the start of its body to what it holds at the end.
-/
module

public import proofs.«01_k».proof.Proof.KernelIdeal.Body
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (W : Dev nD → Vec F S4096x2048 .f32)

/-! ## The composed steps -/

theorem par_ahead (i : Fin 7) (h : i.val + 3 < 8) : par ⟨i.val + 3, h⟩ = par (blk i) := Fin.ext (by show (i.val + 3) % 2 = (i.val + 1) % 2; omega)

/-- The slab of block `k`: its copy under way, or idle past the last block. -/
def Slab (c : Dev nD) (k : ℕ) : sProp 𝕄 := if h : k < 8 then Busy W c ⟨k, h⟩ else Idle W c ⟨k % 2, Nat.mod_lt _ (by decide)⟩

theorem Slab_busy (c : Dev nD) (k : ℕ) (h : k < 8) : Slab W c k = Busy W c ⟨k, h⟩ := dif_pos h
theorem Slab_idle (c : Dev nD) (k : ℕ) (h : ¬ k < 8) : Slab W c k = Idle W c ⟨k % 2, Nat.mod_lt _ (by decide)⟩ := dif_neg h

theorem wp_fetchAhead (c : Dev nD) (i : Fin 7) : Idle W c (par (blk i)) ⊢ Wp c (fetchAhead c i) fun _ => Slab W c (i.val + 1 + 2) := by
  unfold fetchAhead
  by_cases h : i.val < 5
  · have h8 : i.val + 3 < 8 := by omega
    rw [dif_pos h, Slab_busy W c (i.val + 1 + 2) h8, ← par_ahead i h8]
    exact wp_fetchSlab W c ⟨i.val + 3, h8⟩
  · rw [dif_neg h, Slab_idle W c (i.val + 1 + 2) (by omega),
      show (⟨(i.val + 1 + 2) % 2, Nat.mod_lt _ (by decide)⟩ : Fin 2) = par (blk i) from Fin.ext (by show (i.val + 1 + 2) % 2 = (i.val + 1) % 2; omega)]
    iintro H
    rw [Prog.pure_eq_ret, Wp, wp_ret]; imodintro
    iexact H

/-- The device's own block. -/
theorem wp_ownBlock (c : Dev nD) {O : CellTallies nD τ sig Unit} (hO : Above 0 O) :
    iprop(Busy W c 0 ∗ Owes c O ∗ levAts L lv ∗ (((c : Thread nD τ).loc cc0_scratch0) ↦{fullShare} xbA X c)
        ∗ ∃ f : Buf (Elt F) ((c : Thread nD τ).loc cc0_stg1_0), ((c : Thread nD τ).loc cc0_stg1_0) ↦[rowSet c]{fullShare} f)
      ⊢ Wp c (ownBlock c) fun _ => iprop(Busy W c 2 ∗ Owes c O ∗ (((c : Thread nD τ).loc cc0_scratch0) ↦{fullShare} xbA X c)
        ∗ (((c : Thread nD τ).loc cc0_stg1_0) ↦[rowSet c]{fullShare} outA X W c)) := by
  unfold ownBlock
  iintro ⟨Hb, HO, #Hlev, Hx, Ho⟩
  iapply (wp_then_unit c (wp_awaitSlab W c 0 hO))
  isplitl [Hb HO]
  · isplitl [Hb]; · iexact Hb
    isplitl [HO]; · iexact HO
    iexact Hlev
  iintro ⟨Hf, HO⟩
  iapply (wp_then c (wp_readSlab W c 0))
  isplitl [Hf]; · iexact Hf
  iintro %w ⟨%hw, Hf⟩
  iapply (wp_then c (wp_readX c (xbA X c)))
  isplitl [Hx]; · iexact Hx
  iintro %x ⟨%hx, Hx⟩
  iapply (wp_then_unit c (wp_fetchSlab W c 2))
  isplitl [Hf]; · iapply (Full_idle W c 0); iexact Hf
  iintro Hb
  ihave H := (wp_storeRow X W c c (k0_off2 c) (k0_off2_eq c) (k0_off2_inb c) (k0_pay2 w x)
    (by rw [rowV_own, hw, hx, tgt_zero])) $$ Ho
  iapply (wp_wand frame _ _) $$ H
  iintro %a Ho
  isplitl [Hb]; · iexact Hb
  isplitl [HO]; · iexact HO
  isplitl [Hx] <;> iassumption

/-- What step `i` of the sends starts from. -/
def sendStart (c : Dev nD) (i : Fin 7) : sProp 𝕄 :=
  iprop((Inv X W (sendCell c i) ∗ Inv X W (recvCell (nbr c i) i)
      ∗ dutyTok ER (sendCell c i) 0 0 ∗ reached ER (sendCell c i) 0
      ∗ dutyTok ER (recvCell (nbr c i) i) 0 0 ∗ reached ER (recvCell (nbr c i) i) 0
      ∗ ∃ f : Buf (Elt F) ((nbr c i : Thread nD τ).loc cc0_scratch3), ((nbr c i : Thread nD τ).loc cc0_scratch3) ↦[slotSet c]{fullShare} f)
    ∗ levAts L lv
    ∗ ∃ f : Buf (Elt F) ((c : Thread nD τ).loc cc0_scratch2), ((c : Thread nD τ).loc cc0_scratch2) ↦[slotSet (blk i)]{fullShare} f)
/-- What is held between the sends. -/
def sending (c : Dev nD) (n : ℕ) : sProp 𝕄 :=
  iprop(Owes c (OR c n) ∗ (((c : Thread nD τ).loc cc0_scratch0) ↦{fullShare} xbA X c) ∗ Slab W c (n + 1) ∗ Slab W c (n + 2))

theorem wp_sendStep (c : Dev nD) (i : Fin 7) :
    iprop(sendStart X W c i ∗ sending X W c i.val)
      ⊢ Wp c (sendStep c i) fun _ => iprop(cred (tallyAt (sendCell c i) () N) ∗ sending X W c (i.val + 1)) := by
  unfold sendStart sending sendStep
  rw [Slab_busy W c (i.val + 1) (blk i).isLt]
  iintro ⟨⟨Hg, #Hlev, Hy⟩, HO, Hx, Hb, Hb'⟩
  iapply (wp_then_unit c (wp_awaitSlab W c (blk i) (above_mono (Nat.zero_le 1) (above_OR c i.val))))
  isplitl [Hb HO]
  · isplitl [Hb]; · iexact Hb
    isplitl [HO]; · iexact HO
    iexact Hlev
  iintro ⟨Hf, HO⟩
  iapply (wp_then c (wp_readSlab W c (blk i)))
  isplitl [Hf]; · iexact Hf
  iintro %w ⟨%hw, Hf⟩
  iapply (wp_then c (wp_readX c (xbA X c)))
  isplitl [Hx]; · iexact Hx
  iintro %x ⟨%hx, Hx⟩
  iapply (wp_then_unit c (wp_fetchAhead W c i))
  isplitl [Hf]; · iapply (Full_idle W c (blk i)); iexact Hf
  iintro Hb
  rw [show k0_pay4 (k0_pay3 w x) = sentV X W c (nbr c i) from by rw [hw, hx]; rfl]
  iapply (wp_then_unit c (wp_putBlock X W c i))
  isplitl [Hy]; · iexact Hy
  iintro Hy
  ihave H := (wp_sendTo X W c i (dstDev c i) (dstDev_eq c i) (rbTo c) (rbTo_eq c) (recvTo c) ((recvTo_eq c).trans (by rw [src_nbr]))) $$ [Hg Hy HO]
  · isplitl [Hg]; · iexact Hg
    isplitl [Hy]; · iexact Hy
    iexact HO
  iapply (wp_wand frame _ _) $$ H
  iintro %a ⟨Hc, HO⟩
  isplitl [Hc]; · iexact Hc
  isplitl [HO]; · iexact HO
  isplitl [Hx]; · iexact Hx
  isplitl [Hb']; · iexact Hb'
  iexact Hb

theorem credit_rb (c : Dev nD) (i : Fin 7) : (rbFrom c i).view.dmaCredit = N := rfl
theorem credit_y (d : Fin 8) : (ySlot d).view.dmaCredit = N := rfl

/-- What step `i` of the receipts starts from. -/
def recvStart (c : Dev nD) (i : Fin 7) : sProp 𝕄 :=
  iprop(Inv X W (recvCell c i) ∗ cred (tallyAt (recvCell c i) () N) ∗ atPos ER (recvCell c i) 0 ∅ 0
    ∗ ∃ f : Buf (Elt F) ((c : Thread nD τ).loc cc0_stg1_0), ((c : Thread nD τ).loc cc0_stg1_0) ↦[rowSet (src c i)]{fullShare} f)
/-- What it leaves: the block received, and stored. -/
def recvEnd (c : Dev nD) (i : Fin 7) : sProp 𝕄 :=
  iprop(recvPay X W c i ∗ semVal (recvCell c i) 0 ∗ (((c : Thread nD τ).loc cc0_stg1_0) ↦[rowSet (src c i)]{fullShare} outA X W c))

theorem wp_recvStep (c : Dev nD) (i : Fin 7) :
    iprop(recvStart X W c i ∗ Owes c 0) ⊢ Wp c (recvStep c i) fun _ => iprop(recvEnd X W c i ∗ Owes c 0) := by
  unfold recvStart recvEnd recvStep
  iintro ⟨⟨HI, Hc, Hat, Ho⟩, HO⟩
  iapply (wp_then_unit c (wp_awaitOne X W c (recvFrom c i) (recvSem (src c i)) (recvFrom_eq c i) (recvPay X W c i) (credit_rb c i) (expect_recv X W c i) (rest_recv X W c i)))
  isplitl [HI Hc Hat HO]
  · isplitl [HI]; · iexact HI
    isplitl [Hc]; · iexact Hc
    isplitl [Hat] <;> iassumption
  iintro ⟨Hp, Hz, HO⟩
  unfold recvPay
  iapply (wp_then c (wp_readSlot X W c (src c i) _ (off7_eq c i) _))
  isplitl [Hp]; · iexact Hp
  iintro %v ⟨%hv, Hp⟩
  ihave H := (wp_storeRow X W c (src c i) _ (off8_eq c i) (k0_off8_inb c i) (k0_pay14 v)
    (by rw [rowV_other X W c (src c i) (src_ne c i), hv])) $$ Ho
  iapply (wp_wand frame _ _) $$ H
  iintro %a Ho
  isplitr [HO]
  · isplitl [Hp]; · iexact Hp
    isplitl [Hz] <;> iassumption
  iexact HO

/-- What the wait for the send of step `i` starts from. -/
def sentStart (c : Dev nD) (i : Fin 7) : sProp 𝕄 :=
  iprop(Inv X W (sendCell c i) ∗ cred (tallyAt (sendCell c i) () N) ∗ atPos ER (sendCell c i) 0 ∅ 0)
def sentEnd (c : Dev nD) (i : Fin 7) : sProp 𝕄 := iprop(sendPay X W c i ∗ semVal (sendCell c i) 0)

theorem wp_awaitSend (c : Dev nD) (i : Fin 7) :
    iprop(sentStart X W c i ∗ Owes c 0) ⊢ Wp c (awaitSend c i) fun _ => iprop(sentEnd X W c i ∗ Owes c 0) := by
  unfold sentStart sentEnd awaitSend
  iintro ⟨⟨HI, Hc, Hat⟩, HO⟩
  ihave H := (wp_awaitOne X W c (sendSem (blk i)) (sendSem (blk i)) rfl (sendPay X W c i) (credit_y (blk i)) (expect_send X W c i) (rest_send X W c i)) $$ [HI Hc Hat HO]
  · isplitl [HI]; · iexact HI
    isplitl [Hc]; · iexact Hc
    isplitl [Hat] <;> iassumption
  iapply (wp_wand frame _ _) $$ H
  iintro %a ⟨Hp, Hz, HO⟩
  isplitr [HO]
  · isplitl [Hp] <;> iassumption
  iexact HO

end Cert.KernelIdealProof
-- ==== Proof.KernelIdeal.Whole.lean ====
/-
# From the start of the body to its end

The buffers are cut into their blocks, every block is treated by its step, and the blocks are put together again.
-/
module

public import proofs.«01_k».proof.Proof.KernelIdeal.Run
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → Vec F S512x4096 .f32) (W : Dev nD → Vec F S4096x2048 .f32)

/-! ## Buffers in blocks -/

/-- A conjunction, member by member. -/
theorem bigSep_each {ι : Type} {s : Finset ι} {Φ Ψ : ι → sProp 𝕄} (h : ∀ i, Φ i ⊢ Ψ i) : bigSep s Φ ⊢ bigSep s Ψ :=
  bigSep_mono fun i _ => h i

/-- A conjunction over eight: one of them, and the seven others in any order. -/
theorem bigSep_eight (a : Fin 8) (g : Fin 7 → Fin 8) (hg : Function.Injective g) (ha : ∀ i, g i ≠ a) (Φ : Fin 8 → sProp 𝕄) :
    bigSep Finset.univ Φ = iprop(Φ a ∗ bigSep Finset.univ fun i => Φ (g i)) := by
  have he : (Finset.univ.erase a : Finset (Fin 8)) = Finset.univ.map ⟨g, hg⟩ := by
    refine (Finset.eq_of_subset_of_card_le (fun x hx => ?_) ?_).symm
    · obtain ⟨i, -, rfl⟩ := Finset.mem_map.mp hx
      exact Finset.mem_erase.mpr ⟨ha i, Finset.mem_univ _⟩
    · rw [Finset.card_map, Finset.card_erase_of_mem (Finset.mem_univ a), Finset.card_univ, Finset.card_univ, Fintype.card_fin, Fintype.card_fin]
  rw [bigSep_univ_at Φ a, he, bigSep_map]
  rfl

theorem blk_injective : Function.Injective blk := fun _ _ h => blk_inj h
theorem blk_ne (i : Fin 7) : blk i ≠ 0 := fun h => by have := congrArg Fin.val h; simp at this

/-- The slots sent from, apart. -/
theorem y_blocks (c : Dev nD) (f : Buf (Elt F) ((c : Thread nD τ).loc cc0_scratch2)) :
    (((c : Thread nD τ).loc cc0_scratch2) ↦{fullShare} f : sProp 𝕄) = bigSep Finset.univ fun d : Fin 8 => ((c : Thread nD τ).loc cc0_scratch2) ↦[slotSet d]{fullShare} f :=
  Ring.pointsTo_blocks (ℓ := (c : Thread nD τ).loc cc0_scratch2) slotSet slotSet_disjoint slotSet_cover f
theorem y_join (c : Dev nD) (f₀ : Buf (Elt F) ((c : Thread nD τ).loc cc0_scratch2)) :
    (bigSep Finset.univ fun d : Fin 8 => iprop(∃ f : Buf (Elt F) ((c : Thread nD τ).loc cc0_scratch2), ((c : Thread nD τ).loc cc0_scratch2) ↦[slotSet d]{fullShare} f) : sProp 𝕄)
      ⊢ iprop(∃ f : Buf (Elt F) ((c : Thread nD τ).loc cc0_scratch2), ((c : Thread nD τ).loc cc0_scratch2) ↦{fullShare} f) :=
  Ring.pointsTo_blocks_join_exists (ℓ := (c : Thread nD τ).loc cc0_scratch2) slotSet slotSet_disjoint slotSet_cover f₀
/-- The slots received in, apart. -/
theorem rb_blocks (c : Dev nD) (f : Buf (Elt F) ((c : Thread nD τ).loc cc0_scratch3)) :
    (((c : Thread nD τ).loc cc0_scratch3) ↦{fullShare} f : sProp 𝕄) = bigSep Finset.univ fun d : Fin 8 => ((c : Thread nD τ).loc cc0_scratch3) ↦[slotSet d]{fullShare} f :=
  Ring.pointsTo_blocks (ℓ := (c : Thread nD τ).loc cc0_scratch3) slotSet slotSet_disjoint slotSet_cover f
theorem rb_join (c : Dev nD) (f₀ : Buf (Elt F) ((c : Thread nD τ).loc cc0_scratch3)) :
    (bigSep Finset.univ fun d : Fin 8 => iprop(∃ f : Buf (Elt F) ((c : Thread nD τ).loc cc0_scratch3), ((c : Thread nD τ).loc cc0_scratch3) ↦[slotSet d]{fullShare} f) : sProp 𝕄)
      ⊢ iprop(∃ f : Buf (Elt F) ((c : Thread nD τ).loc cc0_scratch3), ((c : Thread nD τ).loc cc0_scratch3) ↦{fullShare} f) :=
  Ring.pointsTo_blocks_join_exists (ℓ := (c : Thread nD τ).loc cc0_scratch3) slotSet slotSet_disjoint slotSet_cover f₀
/-- The slabs, apart. -/
theorem ws_blocks (c : Dev nD) (f : Buf (Elt F) ((c : Thread nD τ).loc cc0_scratch1)) :
    (((c : Thread nD τ).loc cc0_scratch1) ↦{fullShare} f : sProp 𝕄) = bigSep Finset.univ fun p : Fin 2 => ((c : Thread nD τ).loc cc0_scratch1) ↦[slabSet p]{fullShare} f :=
  Ring.pointsTo_blocks (ℓ := (c : Thread nD τ).loc cc0_scratch1) slabSet slabSet_disjoint slabSet_cover f
theorem ws_join (c : Dev nD) (f₀ : Buf (Elt F) ((c : Thread nD τ).loc cc0_scratch1)) :
    (bigSep Finset.univ fun p : Fin 2 => iprop(∃ f : Buf (Elt F) ((c : Thread nD τ).loc cc0_scratch1), ((c : Thread nD τ).loc cc0_scratch1) ↦[slabSet p]{fullShare} f) : sProp 𝕄)
      ⊢ iprop(∃ f : Buf (Elt F) ((c : Thread nD τ).loc cc0_scratch1), ((c : Thread nD τ).loc cc0_scratch1) ↦{fullShare} f) :=
  Ring.pointsTo_blocks_join_exists (ℓ := (c : Thread nD τ).loc cc0_scratch1) slabSet slabSet_disjoint slabSet_cover f₀
/-- The rows of the result, apart. -/
theorem o_blocks (c : Dev nD) (f : Buf (Elt F) ((c : Thread nD τ).loc cc0_stg1_0)) :
    (((c : Thread nD τ).loc cc0_stg1_0) ↦{fullShare} f : sProp 𝕄) = bigSep Finset.univ fun s : Fin 8 => ((c : Thread nD τ).loc cc0_stg1_0) ↦[rowSet s]{fullShare} f :=
  Ring.pointsTo_blocks (ℓ := (c : Thread nD τ).loc cc0_stg1_0) rowSet rowSet_disjoint rowSet_cover f

/-- The weights at the two slabs' shares. -/
theorem w_halves (c : Dev nD) :
    (((c : Thread nD τ).loc main_arg1) ↦{fullShare} W c : sProp 𝕄) ⊣⊢ iprop(wHalf W c 0 ∗ wHalf W c 1) :=
  pointsTo_share (PosShare.mem_left_op_right fullShare)

/-! ## What a device starts from -/

/-- What device `c` signals with at step `i`. -/
def sigGhost (c : Dev nD) (i : Fin 7) : sProp 𝕄 :=
  iprop(Inv X W (barCell (nbr c i)) ∗ dutyTok ER (barCell (nbr c i)) 0 i ∗ reached ER (barCell (nbr c i)) 0)
/-- What it sends with. -/
def sendGhost (c : Dev nD) (i : Fin 7) : sProp 𝕄 :=
  iprop(Inv X W (sendCell c i) ∗ Inv X W (recvCell (nbr c i) i)
    ∗ dutyTok ER (sendCell c i) 0 0 ∗ reached ER (sendCell c i) 0
    ∗ dutyTok ER (recvCell (nbr c i) i) 0 0 ∗ reached ER (recvCell (nbr c i) i) 0)
/-- What it awaits a block with. -/
def recvGhost (c : Dev nD) (i : Fin 7) : sProp 𝕄 := iprop(Inv X W (recvCell c i) ∗ atPos ER (recvCell c i) 0 ∅ 0)
/-- What it awaits the end of a send with. -/
def sentGhost (c : Dev nD) (i : Fin 7) : sProp 𝕄 := iprop(Inv X W (sendCell c i) ∗ atPos ER (sendCell c i) 0 ∅ 0)

/-- All that, with the barrier cell's. -/
def ghost (c : Dev nD) : sProp 𝕄 :=
  iprop(bigSep Finset.univ (sigGhost X W c) ∗ bigSep Finset.univ (sendGhost X W c) ∗ bigSep Finset.univ (recvGhost X W c)
    ∗ bigSep Finset.univ (sentGhost X W c) ∗ Inv X W (barCell c) ∗ atPos ER (barCell c) 0 ∅ 0)
/-- The credit of the device's own cells. -/
def creds (c : Dev nD) : sProp 𝕄 :=
  iprop(cred (tallyAt (barCell c) () 7) ∗ bigSep Finset.univ fun i : Fin 7 => cred (tallyAt (recvCell c i) () N))
/-- The semaphores that run no schedule: the slabs', and those of the block the device keeps. -/
def spare (c : Dev nD) : sProp 𝕄 :=
  iprop(semVal ((c : Thread nD τ), .dma (slabSem 0)) 0 ∗ semVal ((c : Thread nD τ), .dma (slabSem 1)) 0
    ∗ semVal ((c : Thread nD τ), .dma (sendSem 0)) 0 ∗ semVal ((c : Thread nD τ), .dma (recvSem c)) 0)

/-- The buffers of one device that hold nothing yet or nothing any more. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f))

/-- What device `c` starts from, but for its buffers. -/
def start (c : Dev nD) : sProp 𝕄 :=
  iprop(ghost X W c ∗ creds c ∗ levAts L lv ∗ spare c ∗ (((c : Thread nD τ).loc main_arg1) ↦{fullShare} W c))
/-- Before the body. -/
def Φ₀ (c : Dev nD) : sProp 𝕄 := iprop(start X W c ∗ scratch c)
/-- After it: the weights unchanged, every semaphore at zero. -/
def Φ₁ (c : Dev nD) : sProp 𝕄 :=
  iprop((((c : Thread nD τ).loc main_arg1) ↦{fullShare} W c) ∗ scratch c ∗ semVal (barCell c) 0 ∗ spare c
    ∗ (bigSep Finset.univ fun i : Fin 7 => semVal (sendCell c i) 0) ∗ bigSep Finset.univ fun i : Fin 7 => semVal (recvCell c i) 0)

/-! ## The body -/

/-- The slots signalled for, with what signals. -/
theorem signals_intro (c : Dev nD) (f : Buf (Elt F) ((c : Thread nD τ).loc cc0_scratch3)) :
    iprop(bigSep Finset.univ (sigGhost X W c) ∗ bigSep Finset.univ fun i : Fin 7 => (((c : Thread nD τ).loc cc0_scratch3) ↦[slotSet (nbr c i)]{fullShare} f))
      ⊢ bigSep Finset.univ fun i : Fin 7 => iprop(Inv X W (barCell (nbr c i)) ∗ dutyTok ER (barCell (nbr c i)) 0 i ∗ reached ER (barCell (nbr c i)) 0
        ∗ ∃ f : Buf (Elt F) ((c : Thread nD τ).loc cc0_scratch3), ((c : Thread nD τ).loc cc0_scratch3) ↦[slotSet (nbr c i)]{fullShare} f) := by
  rw [← bigSep_sep']
  refine bigSep_each fun i => ?_
  unfold sigGhost
  iintro ⟨⟨H1, H2, H3⟩, H4⟩
  isplitl [H1]; · iexact H1
  isplitl [H2]; · iexact H2
  isplitl [H3]; · iexact H3
  iexists f; iexact H4

/-- The slots handed over by the signals, in the order of the sends. -/
theorem barPay_rev (c : Dev nD) :
    (bigSep Finset.univ (barPay (F := F) c) : sProp 𝕄)
      = bigSep Finset.univ fun i : Fin 7 => iprop(∃ f : Buf (Elt F) ((nbr c i : Thread nD τ).loc cc0_scratch3),
          ((nbr c i : Thread nD τ).loc cc0_scratch3) ↦[slotSet c]{fullShare} f) := by
  rw [bigSep_univ_equiv Fin.revPerm (barPay (F := F) c)]
  refine bigSep_congr fun i _ => ?_
  unfold barPay
  rw [show Fin.revPerm i = Fin.rev i from rfl, src_rev]

/-- What the sends start from. -/
theorem sends_intro (c : Dev nD) (f : Buf (Elt F) ((c : Thread nD τ).loc cc0_scratch2)) :
    iprop(levAts L lv ∗ bigSep Finset.univ (sendGhost X W c) ∗ bigSep Finset.univ (barPay (F := F) c)
        ∗ bigSep Finset.univ fun i : Fin 7 => (((c : Thread nD τ).loc cc0_scratch2) ↦[slotSet (blk i)]{fullShare} f))
      ⊢ bigSep Finset.univ (sendStart X W c) := by
  rw [barPay_rev, ← bigSep_sep', ← bigSep_sep']
  refine (sep_mono_left (BI.bigSep_of_persistent (Finset.univ : Finset (Fin 7)) _)).trans ?_
  rw [← bigSep_sep']
  refine bigSep_each fun i => ?_
  unfold sendGhost sendStart
  iintro ⟨Hl, ⟨H1, H2, H3, H4, H5, H6⟩, H7, H8⟩
  isplitr [Hl H8]
  · isplitl [H1]; · iexact H1
    isplitl [H2]; · iexact H2
    isplitl [H3]; · iexact H3
    isplitl [H4]; · iexact H4
    isplitl [H5]; · iexact H5
    isplitl [H6]; · iexact H6
    iexact H7
  isplitl [Hl]; · iexact Hl
  iexists f; iexact H8

theorem recvs_intro (c : Dev nD) (f : Buf (Elt F) ((c : Thread nD τ).loc cc0_stg1_0)) :
    iprop(bigSep Finset.univ (recvGhost X W c) ∗ (bigSep Finset.univ fun i : Fin 7 => cred (tallyAt (recvCell c i) () N))
        ∗ bigSep Finset.univ fun i : Fin 7 => (((c : Thread nD τ).loc cc0_stg1_0) ↦[rowSet (src c i)]{fullShare} f))
      ⊢ bigSep Finset.univ (recvStart X W c) := by
  rw [← bigSep_sep', ← bigSep_sep']
  refine bigSep_each fun i => ?_
  unfold recvGhost recvStart
  iintro ⟨⟨H1, H2⟩, H3, H4⟩
  isplitl [H1]; · iexact H1
  isplitl [H3]; · iexact H3
  isplitl [H2]; · iexact H2
  iexists f; iexact H4

theorem sents_intro (c : Dev nD) :
    iprop(bigSep Finset.univ (sentGhost X W c) ∗ (bigSep Finset.univ fun i : Fin 7 => cred (tallyAt (sendCell c i) () N)))
      ⊢ bigSep Finset.univ (sentStart X W c) := by
  rw [← bigSep_sep']
  refine bigSep_each fun i => ?_
  unfold sentGhost sentStart
  iintro ⟨⟨H1, H2⟩, H3⟩
  isplitl [H1]; · iexact H1
  isplitl [H3] <;> iassumption

/-- The receive buffer whole again: the slot kept, and the seven filled. -/
theorem rb_whole (c : Dev nD) (f : Buf (Elt F) ((c : Thread nD τ).loc cc0_scratch3)) :
    iprop((((c : Thread nD τ).loc cc0_scratch3) ↦[slotSet c]{fullShare} f) ∗ bigSep Finset.univ (recvPay X W c))
      ⊢ iprop(∃ f : Buf (Elt F) ((c : Thread nD τ).loc cc0_scratch3), ((c : Thread nD τ).loc cc0_scratch3) ↦{fullShare} f) := by
  refine BIBase.Entails.trans ?_ (rb_join c f)
  rw [bigSep_eight c (src c) (src_inj c) (src_ne c)]
  refine BIClass.sep_mono ?_ (bigSep_each fun i => ?_)
  · iintro H; iexists f; iexact H
  · unfold recvPay; iintro H; iexists rbA X W c; iexact H
/-- The send buffer whole again. -/
theorem y_whole (c : Dev nD) (f : Buf (Elt F) ((c : Thread nD τ).loc cc0_scratch2)) :
    iprop((((c : Thread nD τ).loc cc0_scratch2) ↦[slotSet 0]{fullShare} f) ∗ bigSep Finset.univ (sendPay X W c))
      ⊢ iprop(∃ f : Buf (Elt F) ((c : Thread nD τ).loc cc0_scratch2), ((c : Thread nD τ).loc cc0_scratch2) ↦{fullShare} f) := by
  refine BIBase.Entails.trans ?_ (y_join c f)
  rw [bigSep_eight 0 blk blk_injective blk_ne]
  refine BIClass.sep_mono ?_ (bigSep_each fun i => ?_)
  · iintro H; iexists f; iexact H
  · unfold sendPay; iintro H; iexists yA X W c; iexact H
/-- The result whole: the device's own rows and the seven others. -/
theorem o_whole (c : Dev nD) :
    iprop((((c : Thread nD τ).loc cc0_stg1_0) ↦[rowSet c]{fullShare} outA X W c)
        ∗ bigSep Finset.univ fun i : Fin 7 => (((c : Thread nD τ).loc cc0_stg1_0) ↦[rowSet (src c i)]{fullShare} outA X W c))
      ⊢ (((c : Thread nD τ).loc cc0_stg1_0) ↦{fullShare} outA X W c : sProp 𝕄) := by
  rw [o_blocks, bigSep_eight c (src c) (src_inj c) (src_ne c)]

/-- The slabs' buffer whole again, with the weights and the slabs' semaphores. -/
theorem slabs_whole (c : Dev nD) :
    iprop(Idle W c 0 ∗ Idle W c 1)
      ⊢ iprop((∃ f : Buf (Elt F) ((c : Thread nD τ).loc cc0_scratch1), ((c : Thread nD τ).loc cc0_scratch1) ↦{fullShare} f)
        ∗ semVal ((c : Thread nD τ), .dma (slabSem 0)) 0 ∗ semVal ((c : Thread nD τ), .dma (slabSem 1)) 0
        ∗ (((c : Thread nD τ).loc main_arg1) ↦{fullShare} W c)) := by
  unfold Idle
  iintro ⟨⟨⟨%f, H0⟩, Hs0, Hw0⟩, ⟨%g, H1⟩, Hs1, Hw1⟩
  isplitl [H0 H1]
  · iapply (ws_join c f)
    rw [bigSep_univ_two]
    isplitl [H0]; · iexists f; iexact H0
    iexists g; iexact H1
  isplitl [Hs0]; · iexact Hs0
  isplitl [Hs1]; · iexact Hs1
  iapply (w_halves W c).2
  isplitl [Hw0] <;> iassumption
theorem slabs_apart (c : Dev nD) (f : Buf (Elt F) ((c : Thread nD τ).loc cc0_scratch1)) :
    iprop((((c : Thread nD τ).loc cc0_scratch1) ↦{fullShare} f)
        ∗ semVal ((c : Thread nD τ), .dma (slabSem 0)) 0 ∗ semVal ((c : Thread nD τ), .dma (slabSem 1)) 0
        ∗ (((c : Thread nD τ).loc main_arg1) ↦{fullShare} W c))
      ⊢ iprop(Idle W c 0 ∗ Idle W c 1) := by
  unfold Idle
  rw [ws_blocks, bigSep_univ_two]
  iintro ⟨⟨H0, H1⟩, Hs0, Hs1, Hw⟩
  ihave Hw' := (w_halves W c).1 $$ Hw
  icases Hw' with ⟨Hw0, Hw1⟩
  isplitl [H0 Hs0 Hw0]
  · isplitl [H0]; · iexists f; iexact H0
    isplitl [Hs0] <;> iassumption
  · isplitl [H1]; · iexists f; iexact H1
    isplitl [Hs1] <;> iassumption

/-- The whole body. -/
theorem wp_run (c : Dev nD) :
    iprop(Φ₀ X W c ∗ Owes c (O₀ c) ∗ (((c : Thread nD τ).loc cc0_stg0_0) ↦{fullShare} X c)
        ∗ ∃ f : Buf (Elt F) ((c : Thread nD τ).loc cc0_stg1_0), ((c : Thread nD τ).loc cc0_stg1_0) ↦{fullShare} f)
      ⊢ Wp c (run c) fun _ => iprop(Φ₁ W c ∗ Owes c 0 ∗ (((c : Thread nD τ).loc cc0_stg0_0) ↦{fullShare} X c)
        ∗ (((c : Thread nD τ).loc cc0_stg1_0) ↦{fullShare} outA X W c)) := by
  unfold Φ₀ Φ₁ start scratch spare ghost creds run
  iintro ⟨⟨⟨⟨Hsig, Hsend, Hrecv, Hsent, #HIb, Hatb⟩, ⟨Hcb, Hcr⟩, #Hlev, ⟨Hs0, Hs1, Hss, Hsr⟩, Hw⟩, Hxb, ⟨%fw, Hws⟩, ⟨%fy, Hy⟩, ⟨%fr, Hr⟩⟩, HO, Hx, %fo, Ho⟩
  ihave Hr := (Entails.of_eq ((rb_blocks c fr).trans (bigSep_eight c (nbr c) (nbr_inj c) (nbr_ne c) _))) $$ Hr
  icases Hr with ⟨Hrc, Hr⟩
  ihave Hy := (Entails.of_eq ((y_blocks c fy).trans (bigSep_eight 0 blk blk_injective blk_ne _))) $$ Hy
  icases Hy with ⟨Hy0, Hy⟩
  ihave Ho := (Entails.of_eq ((o_blocks c fo).trans (bigSep_eight c (src c) (src_inj c) (src_ne c) _))) $$ Ho
  icases Ho with ⟨Hoc, Ho⟩
  ihave Hsl := (slabs_apart W c fw) $$ [Hws Hs0 Hs1 Hw]
  · isplitl [Hws]; · iexact Hws
    isplitl [Hs0]; · iexact Hs0
    isplitl [Hs1] <;> iassumption
  icases Hsl with ⟨Hi0, Hi1⟩
  -- the signals
  iapply (wp_then_unit c (wp_seven c (signalStep c) _ (fun _ => iprop(emp)) (fun n => Owes c (OR c 0 + tail (payBar c) n)) (wp_signalStep X W c)))
  isplitl [Hsig Hr HO]
  · isplitl [Hsig Hr]
    · iapply (signals_intro X W c fr)
      isplitl [Hsig] <;> iassumption
    iexact HO
  iintro ⟨-, HO⟩
  rw [tail_end, add_zero]
  -- the first two slabs, the block of `x`, the device's own block
  iapply (wp_then_unit c (wp_fetchSlab W c 0))
  isplitl [Hi0]; · iexact Hi0
  iintro Hb0
  iapply (wp_then_unit c (wp_fetchSlab W c 1))
  isplitl [Hi1]; · iexact Hi1
  iintro Hb1
  iapply (wp_then_unit c (wp_roundX X c))
  isplitl [Hx Hxb]
  · isplitl [Hx] <;> iassumption
  iintro ⟨Hx, Hxb⟩
  iapply (wp_then_unit c (wp_ownBlock X W c (above_mono (Nat.zero_le 1) (above_OR c 0))))
  isplitl [Hb0 HO Hxb Hoc]
  · isplitl [Hb0]; · iexact Hb0
    isplitl [HO]; · iexact HO
    isplitr; · iexact Hlev
    isplitl [Hxb]; · iexact Hxb
    iexists fo; iexact Hoc
  iintro ⟨Hb2, HO, Hxb, Hoc⟩
  -- the barrier
  iapply (wp_then_unit c (wp_awaitAll X W c))
  isplitl [Hcb Hatb HO]
  · isplitr; · iexact HIb
    isplitl [Hcb]; · iexact Hcb
    isplitl [Hatb]; · iexact Hatb
    isplitl [HO]; · iexact HO
    iexact Hlev
  iintro ⟨Hbp, Hzb, HO⟩
  -- the sends
  iapply (wp_then_unit c (wp_seven c (sendStep c) (sendStart X W c) _ (sending X W c) (wp_sendStep X W c)))
  isplitl [Hsend Hbp Hy HO Hxb Hb1 Hb2]
  · isplitl [Hsend Hbp Hy]
    · iapply (sends_intro X W c fy)
      isplitr; · iexact Hlev
      isplitl [Hsend]; · iexact Hsend
      isplitl [Hbp] <;> iassumption
    unfold sending
    isplitl [HO]; · iexact HO
    isplitl [Hxb]; · iexact Hxb
    rw [Slab_busy W c (0 + 1) (by decide), Slab_busy W c (0 + 2) (by decide)]
    isplitl [Hb1]; · iexact Hb1
    iexact Hb2
  unfold sending
  rw [Slab_idle W c (7 + 1) (by decide), Slab_idle W c (7 + 2) (by decide), show OR c 7 = 0 from tail_end _]
  iintro ⟨Hcs, HO, Hxb, Hi0, Hi1⟩
  -- the receipts
  iapply (wp_then_unit c (wp_seven c (recvStep c) (recvStart X W c) (recvEnd X W c) (fun _ => Owes c 0) (wp_recvStep X W c)))
  isplitl [Hrecv Hcr Ho HO]
  · isplitr [HO]
    · iapply (recvs_intro X W c fo)
      isplitl [Hrecv]; · iexact Hrecv
      isplitl [Hcr] <;> iassumption
    iexact HO
  unfold recvEnd
  rw [bigSep_sep', bigSep_sep']
  iintro ⟨⟨Hrp, Hzr, Ho⟩, HO⟩
  -- the ends of the sends
  ihave H := (wp_seven c (awaitSend c) (sentStart X W c) (sentEnd X W c) (fun _ => Owes c 0) (wp_awaitSend X W c)) $$ [Hsent Hcs HO]
  · isplitr [HO]
    · iapply (sents_intro X W c)
      isplitl [Hsent] <;> iassumption
    iexact HO
  iapply (wp_wand frame _ _) $$ H
  unfold sentEnd
  rw [bigSep_sep']
  iintro %a ⟨⟨Hsp, Hzs⟩, HO⟩
  ihave Hsl := (slabs_whole W c) $$ [Hi0 Hi1]
  · isplitl [Hi0]; · iexact Hi0
    iexact Hi1
  icases Hsl with ⟨Hws, Hs0, Hs1, Hw⟩
  isplitr [HO Hx Ho Hoc]
  · isplitl [Hw]; · iexact Hw
    isplitl [Hxb Hws Hsp Hy0 Hrp Hrc]
    · isplitl [Hxb]; · iexists xbA X c; iexact Hxb
      isplitl [Hws]; · iexact Hws
      isplitl [Hsp Hy0]
      · iapply (y_whole X W c fy)
        isplitl [Hy0] <;> iassumption
      iapply (rb_whole X W c fr)
      isplitl [Hrc] <;> iassumption
    isplitl [Hzb]; · iexact Hzb
    isplitl [Hs0 Hs1 Hss Hsr]
    · isplitl [Hs0]; · iexact Hs0
      isplitl [Hs1]; · iexact Hs1
      isplitl [Hss] <;> iassumption
    isplitl [Hzs] <;> iassumption
  isplitl [HO]; · iexact HO
  isplitl [Hx]; · iexact Hx
  iapply (o_whole X W c)
  isplitl [Hoc] <;> iassumption

end Cert.KernelIdealProof
-- ==== Proof.KernelIdeal.Launch.lean ====
/-
# The run of all devices

What each device holds at launch is dealt: the cells' invariants to all, every token to the device that pays it. Then
every fair run of the eight devices ends, with the weights as they were, the result as computed and every semaphore at
zero.
-/
module

public import proofs.«01_k».proof.Proof.KernelIdeal.Whole
public import Idealize.ShloMosaic.Lib.Pipeline.CollectiveSegs
public import Idealize.ShloMosaic.Lib.Tactic

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero. -/
def s₀ : MemSt nD τ sig (Elt F) := ⟨m, fun _ => 0, ρ⟩
/-- The block of `x` on device `c`, as staged. -/
def xIn (c : Dev nD) : Vec F S512x4096 .f32 := (win0_0.blk (0 : Fin 1)).view.read (Elt F) (m ((c : Thread nD τ).loc main_arg0))
/-- The weights on device `c`. -/
def wIn (c : Dev nD) : Vec F S4096x2048 .f32 := m ((c : Thread nD τ).loc main_arg1)

/-- What the one pass over the windows is proved with. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => outA (xIn m) (wIn m) c
  Φ t := match t with
    | ⟨0, _⟩ => Φ₀ (xIn m) (wIn m) c
    | ⟨_ + 1, _⟩ => Φ₁ (wIn m) c
  q _ := fullShare
  owed t := match t with
    | ⟨0, _⟩ => O₀ c
    | ⟨_ + 1, _⟩ => 0

/-! ## The body's obligation -/

theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

/-- A staging buffer at given contents. -/
abbrev staged (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ (xIn m) (wIn m) c ∗ (dats m ρ 0 c).owesAt () t0_0.castSucc
    ∗ (∃ d, staged c cc0_stg0_0 ((dats m ρ 0 c).before (0 : Fin 2) t0_0 d))
    ∗ (∃ d, staged c cc0_stg1_0 ((dats m ρ 0 c).before (1 : Fin 2) t0_0 d)))
def bodyPost (c : Dev nD) : sProp 𝕄 :=
  iprop(Φ₁ (wIn m) c ∗ (dats m ρ 0 c).owesAt () t0_0.succ ∗ staged c cc0_stg0_0 (xIn m c) ∗ staged c cc0_stg1_0 (outA (xIn m) (wIn m) c))

/-- The printed body does what the run of its steps does. -/
theorem wp_body (c : Dev nD) : bodyPre m ρ c ⊢ wp frame (wpE (defs₀ (F := F)) 𝒱₀ (c : Thread nD τ) none) Set.univ
    (cc0_body xM (hstage0_0 0) wM (Memref.isWhole_whole _) oM (hstage0_1 0) xbM (Memref.isWhole_whole _) wsM (Memref.isWhole_whole _)
      yM (Memref.isWhole_whole _) rbM (Memref.isWhole_whole _) cc0_scratch4 cc0_scratch5 cc0_scratch6) (fun _ => bodyPost m ρ c) := by
  rw [body_eq]
  simp only [wp_deviceId]
  unfold bodyPre bodyPost Dat.owesAt Pipeline.owesWithin
  rw [show (dats m ρ 0 c).owed t0_0.castSucc = O₀ c from rfl, show (dats m ρ 0 c).owed t0_0.succ = 0 from rfl]
  iintro ⟨HΦ, ⟨%Ws, %hW, HO⟩, ⟨%d0, %g0, %hg0, Hx⟩, ⟨%d1, %g1, %hg1, Ho⟩⟩
  have hx : g0 = xIn m c := by rw [hg0]; unfold Dat.before; rw [if_pos (fetch0_0 t0_0)]; rfl
  subst hx
  ihave H := (wp_run (xIn m) (wIn m) c) $$ [HΦ HO Hx Ho]
  · isplitl [HΦ]; · iexact HΦ
    isplitl [HO]; · unfold Owes; iexists Ws; iexact HO
    isplitl [Hx]; · iexact Hx
    iexists g1; iexact Ho
  iapply (wp_wand frame _ _) $$ H
  unfold Owes
  iintro %a ⟨HΦ, ⟨%Ws', HO⟩, Hx, Ho⟩
  isplitl [HΦ]; · iexact HΦ
  isplitl [HO]
  · iexists Ws'
    isplitr; · ipureintro; exact fun _ _ => Or.inl trivial
    iexact HO
  isplitl [Hx]
  · iexists _; isplitr; · (ipureintro; rfl)
    iexact Hx
  iexists _; isplitr; · (ipureintro; rfl)
  iexact Ho

set_option maxRecDepth 65536 in
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  exact wp_body m ρ c

/-! ## The semaphores -/

/-- The semaphores the kernel allocates. -/
abbrev osem : Fin 2 ⊕ (Fin 8 ⊕ Fin 8) → SemLoc sig
  | .inl p => .dma (slabSem p)
  | .inr (.inl d) => .dma (sendSem d)
  | .inr (.inr s) => .dma (recvSem s)

theorem ownSemFacts : Pipeline.OwnSemFacts cfg0.spec osem := by decide

/-- One statement of each of a device's fifteen cells. -/
def cellsOf (P : GSem nD τ sig → sProp 𝕄) (c : Dev nD) : sProp 𝕄 :=
  iprop(P (barCell c) ∗ (bigSep Finset.univ fun i : Fin 7 => P (sendCell c i)) ∗ bigSep Finset.univ fun i : Fin 7 => P (recvCell c i))

instance cellsOf_persistent (P : GSem nD τ sig → sProp 𝕄) [∀ g, BI.Persistent (P g)] (c : Dev nD) : BI.Persistent (cellsOf P c) := by
  unfold cellsOf; infer_instance

/-- The names of a device's cells. -/
abbrev Key : Type := Unit ⊕ (Fin 7 ⊕ Fin 7)
abbrev kcell (ck : Dev nD × Key) : GSem nD τ sig := match ck.2 with
  | .inl _ => barCell ck.1
  | .inr (.inl i) => sendCell ck.1 i
  | .inr (.inr i) => recvCell ck.1 i

theorem kcell_injective : Function.Injective kcell := by
  rintro ⟨c, _ | i | i⟩ ⟨c', _ | j | j⟩ h
  · obtain rfl : c = c' := barCell_inj h; rfl
  · exact absurd h.symm (send_ne_bar c' c j)
  · exact absurd h.symm (recv_ne_bar c' c j)
  · exact absurd h (send_ne_bar c c' i)
  · obtain ⟨h1, h2⟩ := sendCell_inj h; obtain rfl : c = c' := h1; obtain rfl := h2; rfl
  · exact absurd h.symm (recv_ne_send c' c j i)
  · exact absurd h (recv_ne_bar c c' i)
  · exact absurd h (recv_ne_send c c' i j)
  · obtain ⟨h1, h2⟩ := recvCell_inj h; obtain rfl : c = c' := h1; obtain rfl := h2; rfl

theorem cells_eq (P : GSem nD τ sig → sProp 𝕄) (c : Dev nD) : bigSep Finset.univ (fun k : Key => P (kcell (c, k))) = cellsOf P c := by
  unfold cellsOf
  rw [bigSep_univ_sum, bigSep_univ_sum, show (Finset.univ : Finset Unit) = {()} from rfl, bigSep_singleton]
  rfl

theorem ownSems0_eq (c : Dev nD) : (Pipeline.ownSems0 (Ix := Unit) (Name := ℕ) (U := UU) (Lvl := ℕ) (Val := Elt F) (τ := τ) osem c : sProp 𝕄)
    = iprop((semVal ((c : Thread nD τ), .dma (slabSem 0)) 0 ∗ semVal ((c : Thread nD τ), .dma (slabSem 1)) 0)
      ∗ (semVal ((c : Thread nD τ), .dma (sendSem 0)) 0 ∗ bigSep Finset.univ fun i : Fin 7 => semVal (sendCell c i) 0)
      ∗ (semVal ((c : Thread nD τ), .dma (recvSem c)) 0 ∗ bigSep Finset.univ fun i : Fin 7 => semVal (recvCell c i) 0)) := by
  unfold Pipeline.ownSems0
  rw [bigSep_univ_sum, bigSep_univ_sum, bigSep_univ_two, bigSep_eight 0 blk blk_injective blk_ne, bigSep_eight c (src c) (src_inj c) (src_ne c)]
  rfl

theorem unscopedSems0_eq (c : Dev nD) : (unscopedSems0 c : sProp 𝕄) = semVal (barCell c) 0 := by
  unfold unscopedSems0; rw [bigSep_eq_bigSepL_of_eq [SemLoc.reg bar] (by decide) (by decide)]; rfl

/-! ## The launch's ghost state -/

def ringCells : Finset (GSem nD τ sig) := Finset.univ.map ⟨kcell, kcell_injective⟩

/-- The duties of a device's own cells: seven of the barrier's, one of each send's and receipt's. -/
abbrev ktok (ck : Dev nD × (Fin 7 ⊕ (Fin 7 ⊕ Fin 7))) : GSem nD τ sig × ℕ × Fin 7 := match ck.2 with
  | .inl i => (barCell ck.1, 0, i)
  | .inr (.inl i) => (sendCell ck.1 i, 0, 0)
  | .inr (.inr i) => (recvCell ck.1 i, 0, 0)

theorem ktok_injective : Function.Injective ktok := by
  rintro ⟨c, i | i | i⟩ ⟨c', j | j | j⟩ h <;> have h1 := congrArg Prod.fst h
  · have h2 : i = j := congrArg (fun x => x.2.2) h
    obtain rfl : c = c' := barCell_inj h1; obtain rfl := h2; rfl
  · exact absurd h1.symm (send_ne_bar c' c j)
  · exact absurd h1.symm (recv_ne_bar c' c j)
  · exact absurd h1 (send_ne_bar c c' i)
  · obtain ⟨h1, h2⟩ := sendCell_inj h1; obtain rfl : c = c' := h1; obtain rfl := h2; rfl
  · exact absurd h1.symm (recv_ne_send c' c j i)
  · exact absurd h1 (recv_ne_bar c c' i)
  · exact absurd h1 (recv_ne_send c c' i j)
  · obtain ⟨h1, h2⟩ := recvCell_inj h1; obtain rfl : c = c' := h1; obtain rfl := h2; rfl

def ringToks : Finset (GSem nD τ sig × ℕ × Fin 7) := Finset.univ.map ⟨ktok, ktok_injective⟩

def u₀ : UU := (initOf (Pipeline.cells cfgs cellOf_inj) (Pipeline.launchToks cfgs cellOf_inj), (initOf ringCells ringToks, 1))

/-- The tokens of the duties of a device's own cells. -/
def toks (c : Dev nD) : sProp 𝕄 :=
  iprop((bigSep Finset.univ fun i : Fin 7 => dutyTok ER (barCell c) 0 i) ∗ (bigSep Finset.univ fun i : Fin 7 => dutyTok ER (sendCell c i) 0 0)
    ∗ bigSep Finset.univ fun i : Fin 7 => dutyTok ER (recvCell c i) 0 0)
/-- The tokens of the duties a device pays. -/
def payToks (c : Dev nD) : sProp 𝕄 :=
  iprop((bigSep Finset.univ fun i : Fin 7 => dutyTok ER (barCell (nbr c i)) 0 i) ∗ (bigSep Finset.univ fun i : Fin 7 => dutyTok ER (sendCell c i) 0 0)
    ∗ bigSep Finset.univ fun i : Fin 7 => dutyTok ER (recvCell (nbr c i) i) 0 0)

abbrev atStart (g : GSem nD τ sig) : sProp 𝕄 := atPos ER g 0 ∅ 0
abbrev marked (g : GSem nD τ sig) : sProp 𝕄 := reached ER g 0

variable (X : Dev nD → Vec F S512x4096 .f32) (W : Dev nD → Vec F S4096x2048 .f32)

/-- What a device is given at launch. -/
def G (c : Dev nD) : sProp 𝕄 :=
  iprop(cellsOf (fun g => roundState ER (Rd X W) g 0) c ∗ cellsOf atStart c ∗ cellsOf marked c ∗ toks c)
/-- What all of that is made into. -/
def G' (c : Dev nD) : sProp 𝕄 := iprop(ghost X W c ∗ spare c)

theorem fund_all : BI.own (ER (initOf ringCells ringToks)) ⊢ (|==> bigSep Finset.univ (G X W) : sProp 𝕄) := by
  have hX (P : GSem nD τ sig → sProp 𝕄) : bigSep ringCells P = bigSep Finset.univ fun c : Dev nD => cellsOf P c := by
    unfold ringCells; rw [bigSep_map, bigSep_univ_prod]
    exact bigSep_congr fun c _ => cells_eq P c
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, bigSep_univ_sum]; rfl
  iintro HX
  imod (Rounds.fund ER (Rd X W) ringCells ringToks) $$ HX with ⟨Hst, Hr, Hat, Htok⟩
  imodintro
  ihave Hst' := (Entails.of_eq (hX fun g => roundState ER (Rd X W) g 0)) $$ Hst
  ihave Hat' := (Entails.of_eq (hX atStart)) $$ Hat
  ihave Hr' := (Entails.of_eq (hX marked)) $$ Hr
  ihave Htok' := (Entails.of_eq hT) $$ Htok
  unfold G; simp only [bigSep_sep']
  isplitl [Hst']; · iexact Hst'
  isplitl [Hat']; · iexact Hat'
  isplitl [Hr']; · iexact Hr'
  iexact Htok'

theorem alloc_cells (c : Dev nD) :
    iprop(cellsOf (fun g => semVal g 0) c ∗ cellsOf (fun g => roundState ER (Rd X W) g 0) c) ⊢ |={Set.univ}=> cellsOf (Inv X W) c := by
  rw [← cells_eq, ← cells_eq, ← cells_eq, ← bigSep_sep']
  exact (bigSep_each fun k => (Rounds.body_intro ER (Rd X W) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G X W c)
      ⊢ |={Set.univ}=> iprop(cellsOf (Inv X W) c ∗ cellsOf atStart c ∗ cellsOf marked c ∗ toks c ∗ spare c) := by
  rw [ownSems0_eq, unscopedSems0_eq]
  unfold G spare
  iintro ⟨⟨⟨Hs0, Hs1⟩, ⟨Hss, Hsend⟩, ⟨Hsr, Hrecv⟩⟩, Hbar, Hst, Hat, Hr, Htok⟩
  imod (alloc_cells X W c) $$ [Hsend Hrecv Hbar Hst] with Hinv
  · isplitr [Hst]
    · unfold cellsOf
      isplitl [Hbar]; · iexact Hbar
      isplitl [Hsend] <;> iassumption
    iexact Hst
  imodintro
  isplitl [Hinv]; · iexact Hinv
  isplitl [Hat]; · iexact Hat
  isplitl [Hr]; · iexact Hr
  isplitl [Htok]; · iexact Htok
  isplitl [Hs0]; · iexact Hs0
  isplitl [Hs1]; · iexact Hs1
  isplitl [Hss] <;> iassumption

/-! ### Dealing it round -/

theorem at_bar (P : GSem nD τ sig → sProp 𝕄) (c : Dev nD) : bigSep Finset.univ (cellsOf P) ⊢ P (barCell c) :=
  BIBase.Entails.trans (bigSep_elim (Finset.mem_univ c)) (by unfold cellsOf; iintro ⟨H, -⟩; iexact H)
theorem at_send (P : GSem nD τ sig → sProp 𝕄) (c : Dev nD) (i : Fin 7) : bigSep Finset.univ (cellsOf P) ⊢ P (sendCell c i) :=
  BIBase.Entails.trans (bigSep_elim (Finset.mem_univ c)) (BIBase.Entails.trans (by unfold cellsOf; iintro ⟨-, H, -⟩; iexact H)
    (bigSep_elim (Φ := fun i : Fin 7 => P (sendCell c i)) (Finset.mem_univ i)))
theorem at_recv (P : GSem nD τ sig → sProp 𝕄) (c : Dev nD) (i : Fin 7) : bigSep Finset.univ (cellsOf P) ⊢ P (recvCell c i) :=
  BIBase.Entails.trans (bigSep_elim (Finset.mem_univ c)) (BIBase.Entails.trans (by unfold cellsOf; iintro ⟨-, -, H⟩; iexact H)
    (bigSep_elim (Φ := fun i : Fin 7 => P (recvCell c i)) (Finset.mem_univ i)))

/-- What every device may use of every cell. -/
def records : sProp 𝕄 := iprop(bigSep Finset.univ (cellsOf (Inv X W)) ∗ bigSep Finset.univ (cellsOf (F := F) marked))

instance records_persistent : BI.Persistent (records X W) := by unfold records; infer_instance

/-- A lasting statement goes to each. -/
theorem bigSep_with {ι : Type} [DecidableEq ι] {S : Finset ι} {R : sProp 𝕄} [BI.Persistent R] {Φ Ψ : ι → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_each h)

/-- Seven statements of each device, each at the device it concerns. -/
theorem dealt (Φ : Dev nD → Fin 7 → sProp 𝕄) :
    bigSep Finset.univ (fun c => bigSep Finset.univ fun i => Φ c i) = bigSep Finset.univ fun c => bigSep Finset.univ fun i => Φ (nbr c i) i := by
  rw [bigSep_univ_comm, bigSep_univ_comm (fun c i => Φ (nbr c i) i)]
  exact bigSep_congr fun i _ => bigSep_univ_equiv (around i) fun c => Φ c i

theorem toks_dealt : (bigSep Finset.univ fun c : Dev nD => (toks c : sProp 𝕄)) ⊢ bigSep Finset.univ fun c : Dev nD => payToks c := by
  unfold toks payToks
  rw [bigSep_sep', bigSep_sep', bigSep_sep', bigSep_sep', dealt fun c i => dutyTok ER (barCell c) 0 i, dealt fun c i => dutyTok ER (recvCell c i) 0 0]

theorem sigs_intro (c : Dev nD) : iprop(records X W ∗ bigSep Finset.univ fun i : Fin 7 => dutyTok ER (barCell (nbr c i)) 0 i)
    ⊢ bigSep Finset.univ (sigGhost X W c) := by
  refine bigSep_with fun i => ?_
  unfold records sigGhost
  iintro ⟨⟨#HI, #HR⟩, Ht⟩
  isplitr; · iapply (at_bar (Inv X W) (nbr c i)); iexact HI
  isplitl [Ht]; · iexact Ht
  iapply (at_bar (F := F) marked (nbr c i)); iexact HR

theorem sendsGhost_intro (c : Dev nD) :
    iprop(records X W ∗ (bigSep Finset.univ fun i : Fin 7 => dutyTok ER (sendCell c i) 0 0) ∗ bigSep Finset.univ fun i : Fin 7 => dutyTok ER (recvCell (nbr c i) i) 0 0)
      ⊢ bigSep Finset.univ (sendGhost X W c) := by
  rw [← bigSep_sep']
  refine bigSep_with fun i => ?_
  unfold records sendGhost
  iintro ⟨⟨#HI, #HR⟩, Ht1, Ht2⟩
  isplitr; · iapply (at_send (Inv X W) c i); iexact HI
  isplitr; · iapply (at_recv (Inv X W) (nbr c i) i); iexact HI
  isplitl [Ht1]; · iexact Ht1
  isplitr; · iapply (at_send (F := F) marked c i); iexact HR
  isplitl [Ht2]; · iexact Ht2
  iapply (at_recv (F := F) marked (nbr c i) i); iexact HR

theorem recvsGhost_intro (c : Dev nD) : iprop(records X W ∗ bigSep Finset.univ fun i : Fin 7 => atPos ER (recvCell c i) 0 ∅ 0) ⊢ bigSep Finset.univ (recvGhost X W c) := by
  refine bigSep_with fun i => ?_
  unfold records recvGhost
  iintro ⟨⟨#HI, #HR⟩, Ht⟩
  isplitr; · iapply (at_recv (Inv X W) c i); iexact HI
  iexact Ht

theorem sentsGhost_intro (c : Dev nD) : iprop(records X W ∗ bigSep Finset.univ fun i : Fin 7 => atPos ER (sendCell c i) 0 ∅ 0) ⊢ bigSep Finset.univ (sentGhost X W c) := by
  refine bigSep_with fun i => ?_
  unfold records sentGhost
  iintro ⟨⟨#HI, #HR⟩, Ht⟩
  isplitr; · iapply (at_send (Inv X W) c i); iexact HI
  iexact Ht

theorem ghost_intro (c : Dev nD) : iprop(records X W ∗ cellsOf atStart c ∗ payToks c ∗ spare c) ⊢ G' X W c := by
  unfold G' ghost cellsOf payToks
  iintro ⟨#HR, ⟨Hb, Hs, Hr⟩, ⟨Htb, Hts, Htr⟩, Hsp⟩
  isplitr [Hsp]
  · isplitl [Htb]
    · iapply (sigs_intro X W c); isplitr; · iexact HR
      iexact Htb
    isplitl [Hts Htr]
    · iapply (sendsGhost_intro X W c); isplitr; · iexact HR
      isplitl [Hts] <;> iassumption
    isplitl [Hr]
    · iapply (recvsGhost_intro X W c); isplitr; · iexact HR
      iexact Hr
    isplitl [Hs]
    · iapply (sentsGhost_intro X W c); isplitr; · iexact HR
      iexact Hs
    isplitr
    · iapply (at_bar (Inv X W) c); unfold records; icases HR with ⟨#HI, -⟩; iexact HI
    iexact Hb
  iexact Hsp

theorem regroup :
    (bigSep Finset.univ fun c : Dev nD => iprop(cellsOf (Inv X W) c ∗ cellsOf atStart c ∗ cellsOf marked c ∗ toks c ∗ spare c) : sProp 𝕄)
      ⊢ bigSep Finset.univ (G' X W) := by
  rw [bigSep_sep', bigSep_sep', bigSep_sep', bigSep_sep']
  iintro ⟨#HI, Hat, #HR, Htok, Hsp⟩
  ihave Htk := (toks_dealt (F := F)) $$ Htok
  iapply (bigSep_with (R := records X W) (ghost_intro X W))
  isplitr
  · unfold records; isplitr; · iexact HI
    iexact HR
  rw [bigSep_sep', bigSep_sep']
  isplitl [Hat]; · iexact Hat
  isplitl [Htk] <;> iassumption

theorem glob : (bigSep Finset.univ fun c => iprop(Pipeline.ownSems0 (Ix := Unit) (Name := ℕ) (U := UU) (Lvl := ℕ) (Val := Elt F) (τ := τ) osem c ∗ unscopedSems0 c ∗ G X W c) : sProp 𝕄)
    ⊢ |={Set.univ}=> bigSep Finset.univ (G' X W) :=
  ((bigSep_each fun c => core_alloc X W c).trans (bigSep_fupd _ _)).trans (BI.fupd_mono (regroup X W))

/-! ### The launch's credit -/

theorem tail_apply (f : Fin 7 → CellTallies nD τ sig Unit) (g : GSem nD τ sig) : tail f 0 g () = ∑ i, f i g () := by
  rw [tail_all, Finset.sum_apply, Finsupp.finsetSum_apply]

/-- What device `d` owes device `c`'s barrier. -/
theorem owed_bar (d c : Dev nD) : O₀ d (barCell c) () = ∑ i : Fin 7, if d = src c i then 1 else 0 := by
  unfold O₀ OR
  rw [Pi.add_apply, Finsupp.add_apply, tail_apply, tail_apply, Finset.sum_eq_zero fun i _ => ?_, zero_add]
  · refine Finset.sum_congr rfl fun i _ => ?_
    rw [tallyAt_apply]
    by_cases h : d = src c i
    · subst h; rw [nbr_src, if_pos ⟨rfl, rfl⟩, if_pos rfl]
    · rw [if_neg h, if_neg fun ⟨h1, _⟩ => h (by rw [barCell_inj h1, src_nbr])]
  · show tallyAt (recvCell (nbr d i) i) () N (barCell c) () = 0
    rw [tallyAt_ne_cell fun h => recv_ne_bar _ _ _ h.symm, Finsupp.zero_apply]

theorem owed_recv (d c : Dev nD) (i : Fin 7) : O₀ d (recvCell c i) () = if d = src c i then N else 0 := by
  unfold O₀ OR
  rw [Pi.add_apply, Finsupp.add_apply, tail_apply, tail_apply, Finset.sum_eq_zero (f := fun j => payBar d j (recvCell c i) ()) fun j _ => ?_, add_zero,
    Finset.sum_eq_single i (fun j _ hj => ?_) (fun h => absurd (Finset.mem_univ i) h)]
  · rw [tallyAt_apply]
    by_cases h : d = src c i
    · subst h; rw [nbr_src, if_pos ⟨rfl, rfl⟩, if_pos rfl]
    · rw [if_neg h, if_neg fun ⟨h1, _⟩ => h (by rw [(recvCell_inj h1).1, src_nbr])]
  · show tallyAt (recvCell (nbr d j) j) () N (recvCell c i) () = 0
    rw [tallyAt_ne_cell fun h => hj (recvCell_inj h).2.symm, Finsupp.zero_apply]
  · show tallyAt (barCell (nbr d j)) () 1 (recvCell c i) () = 0
    rw [tallyAt_ne_cell fun h => recv_ne_bar _ _ _ h, Finsupp.zero_apply]

theorem launch_bar (c : Dev nD) :
    tallyOn (barCell c) (launchCredit (Pipeline.owing O₀) 0 (barCell c)) = (tallyAt (barCell c) () 7 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun i _ => Finset.sum_ite_eq' Finset.univ (src c i) fun _ => 1]
  simp

theorem launch_recv (c : Dev nD) (i : Fin 7) :
    tallyOn (recvCell c i) (launchCredit (Pipeline.owing O₀) 0 (recvCell c i)) = (tallyAt (recvCell c i) () N : CellTallies nD τ sig Unit) := by
  unfold tallyAt; refine congrArg _ (Finsupp.ext fun u => ?_); cases u
  rw [Pipeline.launchCredit_owing, Finsupp.single_eq_same, Finset.sum_congr rfl fun d _ => owed_recv d c i, Finset.sum_ite_eq' Finset.univ (src c i) fun _ => N,
    if_pos (Finset.mem_univ _)]

theorem creds_intro (c : Dev nD) : (Pipeline.launchCred O₀ c : sProp 𝕄) ⊢ creds c := by
  unfold Pipeline.launchCred creds
  rw [bigSep_univ_at _ (SemLoc.reg bar), launch_bar]
  refine sep_mono_right ?_
  have hinj : Function.Injective fun i : Fin 7 => (SemLoc.dma (recvSem (src c i)) : SemLoc sig) := fun i j h =>
    src_inj c (recvSem_inj _ _ (SemLoc.dma.inj h))
  refine BIBase.Entails.trans (bigSep_subset (t := Finset.univ.map ⟨_, hinj⟩) fun sm hsm => ?_) ?_
  · obtain ⟨i, -, rfl⟩ := Finset.mem_map.mp hsm
    exact Finset.mem_erase.mpr ⟨fun h => (by cases h), Finset.mem_univ _⟩
  · rw [bigSep_map]
    exact bigSep_each fun i => Entails.of_eq (congrArg cred (launch_recv c i))

/-! ## The side conditions of the launch -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (xIn m) (wIn m) c)
      ⊢ |={Set.univ}=> iprop(start (xIn m) (wIn m) c ∗ emp) := by
  rw [Pipeline.unscopedRestP_none, show Pipeline.unscopedRest (Ix := Unit) (Name := ℕ) (U := UU) (Lvl := ℕ) cfg0.spec c _ = _ from unscopedRest0_eq c _]
  unfold G' start
  iintro ⟨Hw, Hlev, Hcr, -, Hg, Hsp⟩
  ihave Hc := (creds_intro (F := F) c) $$ Hcr
  imodintro
  isplitl
  · isplitl [Hg]; · iexact Hg
    isplitl [Hc]; · iexact Hc
    isplitl [Hlev]; · iexact Hlev
    isplitl [Hsp]; · iexact Hsp
    iexact Hw
  · iempintro

theorem phi0_intro (c : Dev nD) :
    iprop(start (xIn m) (wIn m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ (xIn m) (wIn m) c from rfl, scopedRest0_eq]
  unfold Φ₀ scratch
  iintro ⟨Hs, -, Hr⟩
  isplitl [Hs] <;> iassumption

/-- What is read off a device at the end. -/
def Y (c : Dev nD) : sProp 𝕄 := iprop(unscopedSems0 c ∗ (((c : Thread nD τ).loc main_arg1) ↦{fullShare} wIn m c))

theorem phi1_exit (c : Dev nD) :
    (dats m ρ 0 c).Φ (Fin.last cfg0.N) ⊢ iprop(Y m c ∗ Pipeline.ownSems0 osem c ∗ Pipeline.scopedRest cfg0.spec c) := by
  rw [show (dats m ρ 0 c).Φ (Fin.last cfg0.N) = Φ₁ (wIn m) c from rfl, scopedRest0_eq, ownSems0_eq]
  unfold Y
  rw [unscopedSems0_eq]
  unfold Φ₁ scratch spare
  iintro ⟨Hw, Hscr, Hb, ⟨Hs0, Hs1, Hss, Hsr⟩, Hsend, Hrecv⟩
  isplitl [Hb Hw]
  · isplitl [Hb] <;> iassumption
  isplitr [Hscr]
  · isplitl [Hs0 Hs1]
    · isplitl [Hs0] <;> iassumption
    isplitl [Hss Hsend]
    · isplitl [Hss] <;> iassumption
    isplitl [Hsr] <;> iassumption
  iexact Hscr

theorem waits (c : Dev nD) : (levAts L lv : sProp 𝕄) ⊢ Pipeline.cellsWaits cfgs (dats m ρ) () 0 c :=
  Pipeline.cellsWaits_intro cfgs (dats m ρ) () 0 c fun w s t =>
    mayWait c _ 0 (le_of_eq (lv_low c _ (by fin_cases w <;> fin_cases s <;> decide))) (by
      rcases t with ⟨_ | _, ht⟩
      · exact above_O₀ c
      · exact above_zero 0)

/-! ## The run -/

/-- A window's array at the end. -/
def finalA (c : Dev nD) (w : Fin cfg0.W) : Buf (Elt F) ((cfg0.win w).arr.view.loc (c : Thread nD τ)) := (dats m ρ 0 c).arrAt w cfg0.N

/-- What every final state satisfies, device by device. -/
def Ends (r : PUnit × MemSt nD τ sig (Elt F)) : Prop :=
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

set_option maxRecDepth 8000 in
/-- From any memory with semaphores at zero, for any float values: every weakly fair run of the eight devices ends, with
    the windows' arrays as computed, the weights unchanged and every semaphore at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := fun c => (body_obligation m ρ c)) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (xIn m) (wIn m)) (G' := G' (xIn m) (wIn m)) (u₀ := u₀)
    (hu₀ := by
      unfold u₀
      iintro Hu
      ihave H := (ownU_pair _ _) $$ Hu
      icases H with ⟨HP, HX⟩
      ihave HX := (own_pair_emb embR (initOf ringCells ringToks) (1 : Counters)) $$ HX
      icases HX with ⟨HX, -⟩
      imod (fund_all (xIn m) (wIn m)) $$ HX with HG
      imodintro
      isplitl [HP] <;> iassumption)
    (hglob := glob (xIn m) (wIn m))
    (hA := fun _ _ => rfl) (hpf := fun _ k => k.elim0)
    (X := start (xIn m) (wIn m)) (Y := Y m) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      unfold Y
      iintro ⟨⟨Hu, Hw⟩, -, HSI⟩
      ihave %hw := (SI_pointsTo_agree (st := s') (ℓ := (c : Thread nD τ).loc main_arg1)) $$ [HSI Hw]
      · isplitl [HSI] <;> iassumption
      imod (Pipeline.unscopedSems0_read (X := unscopedSems0 c) (c := c) fupd_intro s') $$ [Hu HSI] with ⟨%hs, HSI⟩
      · isplitl [Hu] <;> iassumption
      imodintro
      isplitr
      · ipureintro; exact ⟨hs, funext fun i => hw i (Finset.mem_univ i)⟩
      iexact HSI)
    (hQ := fun _ h hs => ⟨fun c => ⟨fun w => (h c).1 w, (h c).2.2.2⟩, sem_eq_zero hs fun c => (h c).2.2.1⟩)

/-- The block of `x` on each device is unchanged. -/
theorem finalA_x (c : Dev nD) : finalA m ρ c (0 : Fin 2) = m ((c : Thread nD τ).loc main_arg0) :=
  (dats (F := F) m ρ 0 c).arrAt_in (0 : Fin 2) rfl _

/-- Every run ends with both arguments unchanged and every semaphore at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c).1 (0 : Fin 2)).trans (finalA_x m ρ c), (h.1 c).2⟩, h.2⟩) (run_main m ρ)

end Cert.KernelIdealProof
-- ==== Proof.KernelIdeal.Value.lean ====
/-
  What the result is over the extended reals: the values that a run leaves on the eight devices are the column blocks of
  one matrix product of the whole arrays. A block that a device keeps and a block that it sends are the same product of
  its rows and some columns, since rounding is the identity there, so a result is a sum over the contracted coordinate
  whichever device computed it.
-/
module

public import proofs.«01_k».proof.Defs
public import proofs.«01_k».proof.Proof.KernelIdeal.Launch
public import proofs.«01_k».proof.Proof.Gen.ReferenceIdeal
public import proofs.«01_k».proof.Proof.Gen.ReferenceIdeal.Run
public import Idealize.ShloMosaic.Lib.StackMember
public import Idealize.ShloMosaic.Lib.KernelVsHost

@[expose] public section

noncomputable section

namespace Cert.KernelIdealProof

open Cert.KernelIdeal Cert.KernelIdeal.Gen
open Idealize.ShloMosaic Idealize.ShloMosaic.TcCoe Idealize.ShloMosaic.ValueIdx
open Idealize.SL.Sem

/-! ### The block products -/

/-- A block of the weights with its leading coordinate of one left out. -/
theorem drop_apply (v : Vec Ideal S1x4096x256 .f32) (k : Fin 4096) (y : Fin 256) :
    shapeCast S4096x256 v shapeCasts_S1x4096x256_S4096x256 (ix2 k y) = v (ix3 (n0 := 1) 0 k y) := by
  refine (shapeCast_dropUnit_apply ![4096, 256] v shapeCasts_S1x4096x256_S4096x256 (ix2 k y)).trans (congrArg v ?_)
  funext a; fin_cases a <;> rfl

/-- The product of a block of rows and a block of columns, an entry. -/
theorem pay2_apply (w : Vec Ideal S1x4096x256 .f32) (x : Vec Ideal S512x4096 .f32) (r : Fin 512) (y : Fin 256) :
    k0_pay2 (F := Ideal) w (k0_pay1 x) (ix2 r y) = ∑ k : Fin 4096, x (ix2 r k) * w (ix3 (n0 := 1) 0 k y) := by
  have h1 : k0_pay1 (F := Ideal) x = x := (shapeCast_self _ _).trans (shapeCast_self x _)
  rw [h1]
  unfold k0_pay2
  rw [matmul_zero_eq_dotGeneral]
  refine (StackMember.dotGeneral_plain_apply none (φ₁ := .bf16) (φ₂ := .bf16) x (shapeCast S4096x256 w shapeCasts_S1x4096x256_S4096x256) r y).trans ?_
  exact Finset.sum_congr rfl fun k _ => congrArg (x (ix2 r k) * ·) (drop_apply w k y)

/-- A block that was rounded, sent and widened again is the block. -/
theorem sent_eq (v : FVec Ideal S512x256 .f32) : k0_pay14 (F := Ideal) (k0_pay4 v) = v := by
  unfold k0_pay14 k0_pay4
  rw [shapeCast_shapeCast]; rfl

section Rows

variable (X : Dev nD → Vec Ideal S512x4096 .f32) (W : Dev nD → Vec Ideal S4096x2048 .f32)

/-- A row block of a device's result, an entry: the product of the rows of the device that the block came from and this
    device's columns. -/
theorem rowV_apply (c s : Dev nD) (r : Fin 512) (y : Fin 256) :
    rowV X W c s (ix2 r y) = ∑ k : Fin 4096, X s (ix2 r k) * W s (ix2 k (colIx c y)) := by
  by_cases h : s = c
  · subst h
    rw [rowV_own]; exact pay2_apply _ _ r y
  · rw [rowV_other _ _ _ _ h]
    refine (congrFun (sent_eq _) _).trans ?_
    exact pay2_apply (wBlk W s c) (X s) r y

/-- A device's result, an entry. -/
theorem outA_apply (c : Dev nD) (i : Fin 4096) (y : Fin 256) :
    outA X W c (ix2 i y) = ∑ k : Fin 4096, X ⟨i.val / 512, by show _ < 8; omega⟩ (ix2 ⟨i.val % 512, Nat.mod_lt _ (by decide)⟩ k)
      * W ⟨i.val / 512, by show _ < 8; omega⟩ (ix2 k (colIx c y)) :=
  rowV_apply X W c _ _ y

/-- The reference's product, an entry. -/
theorem ref_apply (x : Vec Ideal ⟨2, ![4096, 4096]⟩ .f32) (w : Vec Ideal ⟨2, ![4096, 2048]⟩ .f32) (i : Fin 4096) (y : Fin 2048) :
    Host.dotGeneral (F := Ideal) (φ₁ := .f32) (φ₂ := .f32) Cert.ReferenceIdeal.dot_S4096x4096_S4096x2048_S4096x2048_1_0_0_1_n_n none x w (ix2 i y)
      = ∑ k : Fin 4096, x (ix2 i k) * w (ix2 k y) :=
  StackMember.dotGeneral_plain_apply none (φ₁ := .f32) (φ₂ := .f32) x w i y

/-- Where each device holds its block of the rows of `x` and all of `w`, each device's result is its block of the columns
    of their product. -/
theorem outA_block (x : Vec Ideal ⟨2, ![4096, 4096]⟩ .f32) (w : Vec Ideal ⟨2, ![4096, 2048]⟩ .f32)
    (hX : ∀ c : Dev nD, X c = Layout.block ⟨2, ![512, 4096]⟩ ⟨2, ![4096, 4096]⟩ 0 8 c x) (hW : ∀ c : Dev nD, W c = w) (c : Dev nD) :
    outA X W c = Layout.block ⟨2, ![4096, 256]⟩ ⟨2, ![4096, 2048]⟩ 1 8 c
      (Host.dotGeneral (F := Ideal) (φ₁ := .f32) (φ₂ := .f32) Cert.ReferenceIdeal.dot_S4096x4096_S4096x2048_S4096x2048_1_0_0_1_n_n none x w) := by
  funext z
  obtain ⟨i, y, rfl⟩ : ∃ (i : Fin 4096) (y : Fin 256), z = ix2 i y := ⟨z 0, z 1, eq_ix2 z⟩
  have hc : Layout.Tiles.idx (S := ⟨2, ![4096, 256]⟩) (T := ⟨2, ![4096, 2048]⟩) (a := 1) (k := 8) (by decide) c (ix2 i y)
      = ix2 i (colIx c y) := by
    funext a; fin_cases a
    · rfl
    · exact Fin.ext (show c.val * 256 + y.val = 256 * c.val + y.val by omega)
  rw [Layout.block_apply, hc, ref_apply, outA_apply]
  refine Finset.sum_congr rfl fun k _ => ?_
  rw [hX, hW, Layout.block_apply]
  congr 2
  funext a; fin_cases a
  · exact Fin.ext (show i.val / 512 * 512 + i.val % 512 = i.val by omega)
  · rfl

end Rows

/-! ### The run -/

variable (m : (ℓ : Loc nD τ sig) → Buf (Elt Ideal) ℓ) (ρ : Dev nD → PrngReg)

/-- The block of `x` that the body reads is all of the device's. -/
theorem xIn_eq (c : Dev nD) : xIn m c = m ((c : Thread nD τ).loc main_arg0) := by
  have hz : (fun a => (win0_0.index (0 : Fin 1)) a * main_arg0.ty.shape.size a) = fun _ => 0 :=
    funext fun a => by fin_cases a <;> decide
  exact Memref.read_access_unit_zero (Elt Ideal) main_arg0 hz (fun a => by fin_cases a <;> decide) _

/-- The result array ends as computed. -/
theorem finalA_out (c : Dev nD) : finalA m ρ c (1 : Fin 2) = outA (xIn m) (wIn m) c := by
  have hz : (fun a => (win0_1.index (0 : Fin 1)) a * main_v1.ty.shape.size a) = fun _ => 0 :=
    funext fun a => by fin_cases a <;> decide
  have hr := Memref.read_access_unit_zero (Elt Ideal) main_v1 hz (fun a => by fin_cases a <;> decide) (finalA m ρ c (1 : Fin 2))
  refine hr.symm.trans ?_
  show (win0_1.blk (0 : Fin 1)).view.read (Elt Ideal) (finalA m ρ c (1 : Fin 2)) = _
  unfold finalA
  rw [show cfg0.N = ((0 : Fin 1) : Fin cfg0.N).val + 1 from rfl, (dats m ρ 0 c).arrAt_succ (1 : Fin 2) (0 : Fin 1),
    show (cfg0.win (1 : Fin 2)).flush (0 : Fin 1) = true from by decide, if_pos rfl]
  exact View.read_write_univ _ _

/-- Every run ends with each device's result as computed from its arguments, the arguments unchanged. -/
theorem run_value : θ_run defs (onTc (τ := τ) (main (F := Ideal))) ⟨m, fun _ => 0, ρ⟩ (fun r => ∀ c : Dev nD,
      r.2.mem ((c.tc : Thread nD τ).loc main_v1)
        = outA (fun s : Dev nD => m ((s : Thread nD τ).loc main_arg0)) (fun s : Dev nD => m ((s : Thread nD τ).loc main_arg1)) c
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  have hx : xIn m = fun s : Dev nD => m ((s : Thread nD τ).loc main_arg0) := funext (xIn_eq m)
  refine (θ_run defs _ _).mono (fun r h c => ⟨?_, ((h.1 c).1 (0 : Fin 2)).trans (finalA_x m ρ c), (h.1 c).2⟩) (run_main m ρ)
  rw [← hx]
  exact ((h.1 c).1 (1 : Fin 2)).trans (finalA_out m ρ c)

/-- The reference ends with its arguments unchanged and every semaphore at zero, having none. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run m ρ)

/-- The kernel's results are the column blocks of the reference's. -/
theorem algebraic : Cert.algebraic_KernelIdeal_ReferenceIdeal (hKernelIdeal := Cert.KernelIdeal.Gen.facts)
    (hReferenceIdeal := Cert.ReferenceIdeal.Gen.facts) := by
  intro m ρ m' ρ' _ hm
  refine ⟨_, (θ_run defs _ _).mono (fun r h c => ⟨(h c).1.trans ?_, (h c).2⟩) (run_value m ρ),
    (θ_run Cert.ReferenceIdeal.defs _ _).mono (fun r h => h 0) (Cert.ReferenceIdeal.Value.run m' ρ')⟩
  exact outA_block _ _ _ _ (fun s => (hm s).1) (fun s => (hm s).2) c

end Cert.KernelIdealProof
-- ==== Proof.lean ====
/-
  The five claims about the product of a sharded `x` and a replicated `w` on eight devices: the frames of the kernel, of
  its idealization and of the reference, that the idealization keeps the program, and that the kernel's results are the
  column blocks of the reference's product. Each is proved in a module of its own and put together here.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Kernel.Launch
public import proofs.«01_k».proof.Proof.KernelIdeal.Launch
public import proofs.«01_k».proof.Proof.KernelIdeal.Value
public import Idealize.ShloMosaic.Adequacy
public import Idealize.ShloMosaic.Init

@[expose] public section

noncomputable section

namespace Cert.Proof

open Idealize.ShloMosaic Idealize.SL.Sem Cert.Kernel

/-- Everything that is claimed: both programs and the reference run to the end, leave their arguments and every semaphore
    as they were, and the kernel computes the reference's product. -/
theorem claim : Cert.Claim := ⟨Cert.Kernel.Gen.facts, Cert.KernelIdeal.Gen.facts, Cert.ReferenceIdeal.Gen.facts,
  fun m ρ _ => Cert.KernelProof.run_frame m ρ, fun m ρ _ => Cert.KernelIdealProof.run_frame m ρ,
  Cert.KernelIdealProof.reference_frame, trivial, Cert.KernelIdealProof.algebraic⟩

end Cert.Proof

end
